-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x7168 : Shape := ⟨3, ![8, 1, 7168]⟩
abbrev S32256x3584 : Shape := ⟨2, ![32256, 3584]⟩
abbrev S32256x224 : Shape := ⟨2, ![32256, 224]⟩
abbrev S8x7168 : Shape := ⟨2, ![8, 7168]⟩
abbrev S224x32256 : Shape := ⟨2, ![224, 32256]⟩
abbrev S8x128 : Shape := ⟨2, ![8, 128]⟩
abbrev S512x3584 : Shape := ⟨2, ![512, 3584]⟩
abbrev S224x512 : Shape := ⟨2, ![224, 512]⟩
abbrev S224x256 : Shape := ⟨2, ![224, 256]⟩
abbrev S8x256 : Shape := ⟨2, ![8, 256]⟩
abbrev S256x256 : Shape := ⟨2, ![256, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S8x1x256 : Shape := ⟨3, ![8, 1, 256]⟩
abbrev S8x32x256 : Shape := ⟨3, ![8, 32, 256]⟩
abbrev S8 : Shape := ⟨1, ![8]⟩
abbrev S8x1 : Shape := ⟨2, ![8, 1]⟩

abbrev nBuf : Space → Nat
  | .hbm => 10
  | .vmem => 14
  | .smem => 0
  | _ => 0

abbrev bufTy : (tb : Table) → Fin (tcTables nBuf tb) → BufTy
  | .hbm, ⟨0, _⟩ => ⟨S8x1x7168, .bf16⟩
  | .hbm, ⟨1, _⟩ => ⟨S32256x3584, .i8⟩
  | .hbm, ⟨2, _⟩ => ⟨S32256x224, .bf16⟩
  | .hbm, ⟨3, _⟩ => ⟨S32256x224, .bf16⟩
  | .hbm, ⟨4, _⟩ => ⟨S8x7168, .bf16⟩
  | .hbm, ⟨5, _⟩ => ⟨S224x32256, .bf16⟩
  | .hbm, ⟨6, _⟩ => ⟨S224x32256, .bf16⟩
  | .hbm, ⟨7, _⟩ => ⟨S8x128, .i32⟩
  | .hbm, ⟨8, _⟩ => ⟨S8x128, .f32⟩
  | .hbm, ⟨9, _⟩ => ⟨S8x128, .f32⟩
  | .local _ .vmem, ⟨0, _⟩ => ⟨S8x7168, .bf16⟩
  | .local _ .vmem, ⟨1, _⟩ => ⟨S512x3584, .i8⟩
  | .local _ .vmem, ⟨2, _⟩ => ⟨S512x3584, .i8⟩
  | .local _ .vmem, ⟨3, _⟩ => ⟨S224x512, .bf16⟩
  | .local _ .vmem, ⟨4, _⟩ => ⟨S224x512, .bf16⟩
  | .local _ .vmem, ⟨5, _⟩ => ⟨S224x512, .bf16⟩
  | .local _ .vmem, ⟨6, _⟩ => ⟨S224x512, .bf16⟩
  | .local _ .vmem, ⟨7, _⟩ => ⟨S8x128, .i32⟩
  | .local _ .vmem, ⟨8, _⟩ => ⟨S8x128, .f32⟩
  | .local _ .vmem, ⟨9, _⟩ => ⟨S8x128, .f32⟩
  | .local _ .vmem, ⟨10, _⟩ => ⟨S224x256, .f32⟩
  | .local _ .vmem, ⟨11, _⟩ => ⟨S8x256, .f32⟩
  | .local _ .vmem, ⟨12, _⟩ => ⟨S8x256, .f32⟩
  | .local _ .vmem, ⟨13, _⟩ => ⟨S8x256, .i32⟩
  | _, _ => ⟨S8x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![63], ![false]⟩

def k0_cond2 (i : grid0.Coords) : BitVec 1 :=
  let arg0 : BitVec 32 := BitVec.ofNat 32 (i 0).val
  let c62_i32 : BitVec 32 := 62#32
  let v1729 : BitVec 1 := Scalar.cmpi .eq arg0 c62_i32
  let v1730 : BitVec 32 := Scalar.extui v1729
  let c0_i32_588 : BitVec 32 := 0#32
  let v1731 : BitVec 1 := Scalar.cmpi .ne v1730 c0_i32_588
  v1731

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x1x7168 : Shape := ⟨3, ![8, 1, 7168]⟩
abbrev S32256x3584 : Shape := ⟨2, ![32256, 3584]⟩
abbrev S32256x224 : Shape := ⟨2, ![32256, 224]⟩
abbrev S32256x224x16 : Shape := ⟨3, ![32256, 224, 16]⟩
abbrev S_ : Shape := ⟨0, ![]⟩
abbrev S32256x224x1 : Shape := ⟨3, ![32256, 224, 1]⟩
abbrev S8x1x224x32 : Shape := ⟨4, ![8, 1, 224, 32]⟩
abbrev S8x1x224x16 : Shape := ⟨4, ![8, 1, 224, 16]⟩
abbrev S8x1x32256 : Shape := ⟨3, ![8, 1, 32256]⟩
abbrev S8x1x2 : Shape := ⟨3, ![8, 1, 2]⟩
abbrev S8x1x1 : Shape := ⟨3, ![8, 1, 1]⟩
abbrev S8x1 : Shape := ⟨2, ![8, 1]⟩
abbrev S8x128 : Shape := ⟨2, ![8, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x1x7168, .bf16⟩
  | .hbm, ⟨1, _⟩ => ⟨S32256x3584, .i8⟩
  | .hbm, ⟨2, _⟩ => ⟨S32256x224, .bf16⟩
  | .hbm, ⟨3, _⟩ => ⟨S32256x224, .bf16⟩
  | .hbm, ⟨4, _⟩ => ⟨S32256x3584, .i32⟩
  | .hbm, ⟨5, _⟩ => ⟨S32256x224x16, .i32⟩
  | .hbm, ⟨6, _⟩ => ⟨S_, .i32⟩
  | .hbm, ⟨7, _⟩ => ⟨S32256x224x16, .i32⟩
  | .hbm, ⟨8, _⟩ => ⟨S32256x224x16, .i32⟩
  | .hbm, ⟨9, _⟩ => ⟨S32256x224x16, .bf16⟩
  | .hbm, ⟨10, _⟩ => ⟨S32256x224x1, .bf16⟩
  | .hbm, ⟨11, _⟩ => ⟨S32256x224x16, .bf16⟩
  | .hbm, ⟨12, _⟩ => ⟨S32256x224x16, .bf16⟩
  | .hbm, ⟨13, _⟩ => ⟨S32256x224x1, .bf16⟩
  | .hbm, ⟨14, _⟩ => ⟨S32256x224x16, .bf16⟩
  | .hbm, ⟨15, _⟩ => ⟨S32256x224x16, .bf16⟩
  | .hbm, ⟨16, _⟩ => ⟨S_, .i32⟩
  | .hbm, ⟨17, _⟩ => ⟨S32256x224x16, .i32⟩
  | .hbm, ⟨18, _⟩ => ⟨S32256x224x16, .i32⟩
  | .hbm, ⟨19, _⟩ => ⟨S32256x224x16, .bf16⟩
  | .hbm, ⟨20, _⟩ => ⟨S32256x224x1, .bf16⟩
  | .hbm, ⟨21, _⟩ => ⟨S32256x224x16, .bf16⟩
  | .hbm, ⟨22, _⟩ => ⟨S32256x224x16, .bf16⟩
  | .hbm, ⟨23, _⟩ => ⟨S32256x224x1, .bf16⟩
  | .hbm, ⟨24, _⟩ => ⟨S32256x224x16, .bf16⟩
  | .hbm, ⟨25, _⟩ => ⟨S32256x224x16, .bf16⟩
  | .hbm, ⟨26, _⟩ => ⟨S8x1x224x32, .bf16⟩
  | .hbm, ⟨27, _⟩ => ⟨S8x1x224x16, .bf16⟩
  | .hbm, ⟨28, _⟩ => ⟨S8x1x32256, .f32⟩
  | .hbm, ⟨29, _⟩ => ⟨S8x1x224x16, .bf16⟩
  | .hbm, ⟨30, _⟩ => ⟨S8x1x32256, .f32⟩
  | .hbm, ⟨31, _⟩ => ⟨S8x1x32256, .f32⟩
  | .hbm, ⟨32, _⟩ => ⟨S8x1x2, .f32⟩
  | .hbm, ⟨33, _⟩ => ⟨S8x1x2, .i32⟩
  | .hbm, ⟨34, _⟩ => ⟨S8x1x1, .i32⟩
  | .hbm, ⟨35, _⟩ => ⟨S8x1, .i32⟩
  | .hbm, ⟨36, _⟩ => ⟨S8x1x1, .f32⟩
  | .hbm, ⟨37, _⟩ => ⟨S8x1, .f32⟩
  | .hbm, ⟨38, _⟩ => ⟨S8x1x1, .f32⟩
  | .hbm, ⟨39, _⟩ => ⟨S8x1, .f32⟩
  | .hbm, ⟨40, _⟩ => ⟨S8x1, .f32⟩
  | .hbm, ⟨41, _⟩ => ⟨S8x128, .i32⟩
  | .hbm, ⟨42, _⟩ => ⟨S8x128, .f32⟩
  | .hbm, ⟨43, _⟩ => ⟨S8x128, .f32⟩
  | _, _ => ⟨S8x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_values : Ref sig .tc := ⟨.hbm, 32, rfl⟩
abbrev main_indices : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Top2.lean ====
/-
  Hand-written, untrusted. The two greatest entries of a line of extended reals, twice: as the stable sort of the host's
  top-k finds them, and as a running best, second best and position kept apart on each of 256 lanes. Both are described by
  the same three facts about the first position of the greatest entry and the greatest of the other entries.
-/
module

public import Idealize.ShloMosaic.Lib.SortFacts
public import Mathlib.Data.EReal.Basic

@[expose] public section

set_option maxRecDepth 16384

noncomputable section

namespace Cert.Proof.Top2

open Idealize.ShloMosaic

/-! ## The stable sort -/

/-- The head of a stable sort of an increasing list, greater first, is the first position of the greatest entry. -/
theorem head_stableSort {n : ℕ} (f : Fin n → EReal) (B : Fin n → Fin n → Bool) (hB : ∀ a b, B a b = true ↔ f b < f a)
    (l : List (Fin n)) (hl : l.Pairwise (· < ·)) (h : Fin n) (t : List (Fin n)) (hs : stableSort B l = h :: t) :
    h ∈ l ∧ ∀ v ∈ l, f v ≤ f h ∧ (v < h → f v < f h) := by
  induction l generalizing h t with
  | nil => simp [stableSort] at hs
  | cons a l ih =>
    rw [List.pairwise_cons] at hl
    unfold stableSort at hs
    cases hr : stableSort B l with
    | nil =>
      have hp := perm_stableSort B l
      rw [hr] at hp
      have hl0 : l = [] := List.nil_perm.mp hp
      subst hl0
      rw [hr] at hs
      simp only [insertBefore, List.cons.injEq] at hs
      obtain ⟨rfl, _⟩ := hs
      simp
    | cons b r =>
      obtain ⟨hbl, hbv⟩ := ih hl.2 b r hr
      rw [hr] at hs
      unfold insertBefore at hs
      split at hs
      · rename_i hba
        have hlt := (hB b a).mp hba
        simp only [List.cons.injEq] at hs
        obtain ⟨rfl, _⟩ := hs
        refine ⟨List.mem_cons_of_mem _ hbl, fun v hv => ?_⟩
        rcases List.mem_cons.mp hv with rfl | hv
        · exact ⟨hlt.le, fun _ => hlt⟩
        · exact hbv v hv
      · rename_i hba
        have hle : f b ≤ f a := not_lt.mp fun hlt => hba ((hB b a).mpr hlt)
        simp only [List.cons.injEq] at hs
        obtain ⟨rfl, _⟩ := hs
        refine ⟨List.mem_cons_self, fun v hv => ?_⟩
        rcases List.mem_cons.mp hv with rfl | hv
        · exact ⟨le_rfl, fun hlt => absurd hlt (lt_irrefl _)⟩
        · exact ⟨(hbv v hv).1.trans hle, fun hlt => absurd (hl.1 v hv) (not_lt.mpr hlt.le)⟩

/-- What a position `p` and another position `q` must be for `p` to be the first position of the greatest entry and `q` a
    position of the greatest of the others. -/
structure IsTop2 {n : ℕ} (f : Fin n → EReal) (p q : Fin n) : Prop where
  le : ∀ v, f v ≤ f p
  lt : ∀ v, v < p → f v < f p
  ne : q ≠ p
  snd : ∀ v, v ≠ p → f v ≤ f q

/-- The first two positions of the stable sort, greater first. -/
theorem isTop2_sortedFrom {n : ℕ} (f : Fin n → EReal) (B : Fin n → Fin n → Bool) (hB : ∀ a b, B a b = true ↔ f b < f a)
    (h0 : 0 < n) (h1 : 1 < n) : IsTop2 f (sortedFrom B ⟨0, h0⟩) (sortedFrom B ⟨1, h1⟩) := by
  have hhead : ∀ v, f v ≤ f (sortedFrom B ⟨0, h0⟩) ∧ (v < sortedFrom B ⟨0, h0⟩ → f v < f (sortedFrom B ⟨0, h0⟩)) := by
    intro v
    have hlen := length_sortPositions n B
    cases hs : sortPositions n B with
    | nil => rw [hs] at hlen; simp at hlen; omega
    | cons h t =>
      have hh : sortedFrom B ⟨0, h0⟩ = h := by
        unfold sortedFrom
        rw [List.get_eq_getElem]
        simp [hs]
      rw [hh]
      exact (head_stableSort f B hB (List.finRange n) (List.pairwise_lt_finRange n) h t hs).2 v (List.mem_finRange v)
  have hBf : ∀ a b, B a b = false ↔ f a ≤ f b := fun a b => by
    rw [← Bool.not_eq_true, hB, not_lt]
  refine ⟨fun v => (hhead v).1, fun v => (hhead v).2, fun h => ?_, fun v hv => ?_⟩
  · have := sortedFrom_injective B h
    simp [Fin.ext_iff] at this
  · obtain ⟨k, rfl⟩ := sortedFrom_surjective B v
    have hk0 : k ≠ ⟨0, h0⟩ := fun h => hv (by rw [h])
    by_cases hk1 : k = ⟨1, h1⟩
    · rw [hk1]
    · have hlt : (⟨1, h1⟩ : Fin n) < k := by
        rw [Fin.lt_def]
        have a0 : k.val ≠ 0 := fun h => hk0 (Fin.ext h)
        have a1 : k.val ≠ 1 := fun h => hk1 (Fin.ext h)
        show 1 < k.val
        omega
      have := sortedFrom_noInversion B B (fun a b h => (hBf b a).mpr ((hB a b).mp h).le) (fun _ _ h => h)
        (fun a b c hab hbc => (hBf a c).mpr (((hBf a b).mp hab).trans ((hBf b c).mp hbc))) _ _ hlt
      exact (hBf _ _).mp this

/-! ## The lanes -/

/-- Lane `l` after the tiles before `n`: `b` the greatest entry seen, `s` the greatest of the others, `i` the first position of
    `b`; all at their starting values if nothing above `⊥` was seen. -/
def LaneOK (g : ℕ → ℕ → EReal) (l n : ℕ) (b s : EReal) (i : ℕ) : Prop :=
  (∀ k < n, g k l ≤ b) ∧ ((b = ⊥ ∧ s = ⊥ ∧ i = 0) ∨ (∃ k < n, i = 256 * k + l ∧ g k l = b ∧ ⊥ < b ∧ (∀ k' < k, g k' l < b)
    ∧ (∀ k' < n, k' ≠ k → g k' l ≤ s) ∧ (s = ⊥ ∨ ∃ k' < n, k' ≠ k ∧ g k' l = s)))

theorem laneOK_zero (g : ℕ → ℕ → EReal) (l : ℕ) : LaneOK g l 0 ⊥ ⊥ 0 :=
  ⟨fun _ h => absurd h (Nat.not_lt_zero _), Or.inl ⟨rfl, rfl, rfl⟩⟩

theorem laneOK_win (g : ℕ → ℕ → EReal) (l n : ℕ) (b s : EReal) (i : ℕ) (h : LaneOK g l n b s i) (hw : b < g n l) :
    LaneOK g l (n + 1) (g n l) b (256 * n + l) := by
  obtain ⟨hle, h⟩ := h
  refine ⟨fun k hk => ?_, Or.inr ⟨n, Nat.lt_succ_self n, rfl, rfl, lt_of_le_of_lt bot_le hw, fun k hk => lt_of_le_of_lt (hle k hk) hw,
    fun k hk hne => hle k (by omega), ?_⟩⟩
  · rcases Nat.lt_succ_iff_lt_or_eq.mp hk with hk | rfl
    · exact (hle k hk).trans hw.le
    · exact le_rfl
  · rcases h with ⟨hb, _, _⟩ | ⟨k, hk, _, hgb, _⟩
    · exact Or.inl hb
    · exact Or.inr ⟨k, by omega, by omega, hgb⟩

theorem laneOK_lose (g : ℕ → ℕ → EReal) (l n : ℕ) (b s : EReal) (i : ℕ) (h : LaneOK g l n b s i) (hw : ¬ b < g n l) :
    LaneOK g l (n + 1) b (max s (g n l)) i := by
  have hnb : g n l ≤ b := not_lt.mp hw
  obtain ⟨hle, h⟩ := h
  refine ⟨fun k hk => ?_, ?_⟩
  · rcases Nat.lt_succ_iff_lt_or_eq.mp hk with hk | rfl
    · exact hle k hk
    · exact hnb
  · rcases h with ⟨hb, hs, hi⟩ | ⟨k, hk, hi, hgb, hbot, hfirst, hsle, hsex⟩
    · refine Or.inl ⟨hb, ?_, hi⟩
      rw [hs, bot_sup_eq]
      rw [hb] at hnb
      exact le_bot_iff.mp hnb
    · refine Or.inr ⟨k, by omega, hi, hgb, hbot, hfirst, fun k' hk' hne => ?_, ?_⟩
      · rcases Nat.lt_succ_iff_lt_or_eq.mp hk' with hk' | rfl
        · exact (hsle k' hk' hne).trans (le_max_left _ _)
        · exact le_max_right _ _
      · rcases le_total (g n l) s with hx | hx
        · rw [max_eq_left hx]
          rcases hsex with hs | ⟨k', hk', hne, he⟩
          · exact Or.inl hs
          · exact Or.inr ⟨k', by omega, hne, he⟩
        · rw [max_eq_right hx]
          exact Or.inr ⟨n, by omega, by omega, rfl⟩

/-- The end: from the 256 lanes after 126 tiles to the first position of the greatest of the 32256 entries and the greatest of the
    others. `T` is the lanes' greatest best, `I` the least position of a lane whose best is `T`, `N` the greatest of the bests,
    the second best standing in for the best where the position is `I`. -/
theorem finish (g : ℕ → ℕ → EReal) (f : Fin 32256 → EReal) (hf : ∀ v : Fin 32256, f v = g (v.val / 256) (v.val % 256))
    (p q : Fin 32256) (h : IsTop2 f p q) (b s : Fin 256 → EReal) (i : Fin 256 → ℕ)
    (hl : ∀ l : Fin 256, LaneOK g l.val 126 (b l) (s l) (i l))
    (T : EReal) (hT : ∀ l, b l ≤ T) (hT' : ∃ l, b l = T)
    (I : ℕ) (hI : ∀ l, b l = T → I ≤ i l) (hI' : ∃ l, b l = T ∧ i l = I)
    (N : EReal) (hN : ∀ l, (if i l = I then s l else b l) ≤ N) (hN' : ∃ l, (if i l = I then s l else b l) = N) :
    T = f p ∧ I = p.val ∧ N = f q := by
  have hfg : ∀ (k : ℕ) (l : Fin 256) (hk : k < 126), ∃ v : Fin 32256, v.val = 256 * k + l.val ∧ f v = g k l.val := by
    intro k l hk
    refine ⟨⟨256 * k + l.val, by omega⟩, rfl, ?_⟩
    rw [hf]
    have h1 : (256 * k + l.val) / 256 = k := by omega
    have h2 : (256 * k + l.val) % 256 = l.val := by omega
    simp only [h1, h2]
  have hfb : ∀ v : Fin 32256, f v ≤ b ⟨v.val % 256, Nat.mod_lt _ (by decide)⟩ := by
    intro v
    rw [hf]
    exact (hl ⟨v.val % 256, Nat.mod_lt _ (by decide)⟩).1 (v.val / 256) (by omega)
  have hTp : T = f p := by
    refine le_antisymm ?_ ((hfb p).trans (hT _))
    obtain ⟨l, rfl⟩ := hT'
    rcases (hl l).2 with ⟨hb, _⟩ | ⟨k, hk, _, hgb, _⟩
    · rw [hb]; exact bot_le
    · obtain ⟨v, _, hv⟩ := hfg k l hk
      rw [← hgb, ← hv]; exact h.le v
  have hIp : I = p.val := by
    obtain ⟨l, hbl, hil⟩ := hI'
    by_cases hbot : T = ⊥
    · have hp0 : p.val = 0 := by
        by_contra hne
        have : f ⟨0, by decide⟩ < f p := h.lt _ (by rw [Fin.lt_def]; show 0 < p.val; omega)
        rw [← hTp, hbot] at this
        exact not_lt_bot this
      rcases (hl l).2 with ⟨_, _, hi⟩ | ⟨k, hk, _, hgb, hlt, _⟩
      · omega
      · rw [hbl, hbot] at hlt; exact absurd hlt (lt_irrefl _)
    · have hge : p.val ≤ I := by
        rcases (hl l).2 with ⟨hb, _⟩ | ⟨k, hk, hi, hgb, _⟩
        · exact absurd (hbl.symm.trans hb) hbot
        · obtain ⟨v, hv, hfv⟩ := hfg k l hk
          by_contra hlt
          have := h.lt v (by rw [Fin.lt_def]; omega)
          rw [hfv, hgb, hbl, hTp] at this
          exact lt_irrefl _ this
      have hlp : b ⟨p.val % 256, Nat.mod_lt _ (by decide)⟩ = T := le_antisymm (hT _) (hTp ▸ hfb p)
      have hle := hI _ hlp
      rcases (hl ⟨p.val % 256, Nat.mod_lt _ (by decide)⟩).2 with ⟨hb, _⟩ | ⟨k, hk, hi, hgb, _, hfirst, _⟩
      · exact absurd (hlp.symm.trans hb) hbot
      · have hi' : i ⟨p.val % 256, Nat.mod_lt _ (by decide)⟩ = 256 * k + p.val % 256 := hi
        have : k ≤ p.val / 256 := by
          by_contra hlt
          have hx := hfirst (p.val / 256) (by omega)
          have hy := hf p
          dsimp only at hx
          rw [← hy, hlp, hTp] at hx
          exact lt_irrefl _ hx
        omega
  refine ⟨hTp, hIp, le_antisymm ?_ ?_⟩
  · obtain ⟨l, rfl⟩ := hN'
    rcases (hl l).2 with ⟨hb, hs, hi⟩ | ⟨k, hk, hi, hgb, _, _, _, hsex⟩
    · split
      · rw [hs]; exact bot_le
      · rw [hb]; exact bot_le
    · split
      · rename_i hII
        rcases hsex with hs | ⟨k', hk', hne, he⟩
        · rw [hs]; exact bot_le
        · obtain ⟨v, hv, hfv⟩ := hfg k' l hk'
          rw [← he, ← hfv]
          refine h.snd v fun hvp => ?_
          subst hvp
          omega
      · rename_i hII
        obtain ⟨v, hv, hfv⟩ := hfg k l hk
        rw [← hgb, ← hfv]
        refine h.snd v fun hvp => ?_
        subst hvp
        omega
  · refine le_trans ?_ (hN ⟨q.val % 256, Nat.mod_lt _ (by decide)⟩)
    rcases (hl ⟨q.val % 256, Nat.mod_lt _ (by decide)⟩).2 with ⟨hb, hs, hi⟩ | ⟨k, hk, hi, hgb, _, _, hsle, _⟩
    · have := hfb q
      rw [hb] at this
      rw [le_bot_iff.mp this]; exact bot_le
    · split
      · rename_i hII
        have hi' : i ⟨q.val % 256, Nat.mod_lt _ (by decide)⟩ = 256 * k + q.val % 256 := hi
        rw [hf]
        refine hsle (q.val / 256) (by omega) fun hk' => h.ne (Fin.ext ?_)
        omega
      · exact hfb q

end Cert.Proof.Top2

end
-- ==== Proof.Body.lean ====
module

public import proofs.«01_k».proof.Proof.Gen.KernelIdeal.Value
public import Idealize.ShloMosaic.Lib.Pipeline.ReadBack
public import Idealize.ShloMosaic.Lib.Pipeline.ValueKit

@[expose] public section

set_option maxRecDepth 16384

noncomputable section

/- What one grid step leaves in the scratch buffers and in the results, as whole-array terms. -/

namespace Cert.KernelIdeal.Body

open Cert.KernelIdeal Cert.KernelIdeal.Gen Idealize.ShloMosaic Idealize.ShloMosaic.TcCoe Idealize.SL.Sem

variable {F : FTy → Type} [FloatOps F]

/-- The 4-bit codes of a transposed 256×128 byte tile: low nibble in row 2·byte, high nibble in row 2·byte+1. -/
def codes (w : Vec F S256x128 .i8) : FVec F S256x256 .bf16 :=
  sitofp .bf16 (shapeCast S256x256 (concatenate S128x2x256 1
    [⟨S128x1x256, shapeCast S128x1x256 (andi (extui 32 (transpose S128x256 [1, 0] w transposes_S256x128_p1_0_S128x256 : IVec S128x256 8) natLt_8_32) (broadcast S128x256 15#32)) shapeCasts_S128x256_S128x1x256⟩,
     ⟨S128x1x256, shapeCast S128x1x256 (shrsi (extui 32 (transpose S128x256 [1, 0] w transposes_S256x128_p1_0_S128x256 : IVec S128x256 8) natLt_8_32) (broadcast S128x256 4#32)) shapeCasts_S128x256_S128x1x256⟩]
    concatenates_S128x1x256_S128x1x256_S128x2x256_d1) shapeCasts_S128x2x256_S256x256 : IVec S256x256 32)

/-- Eight group rows, each repeated for the 32 rows of its group. -/
def rows (s : Vec F S8x256 .bf16) : FVec F S256x256 .bf16 :=
  shapeCast S256x256 (broadcastTo S8x32x256 (shapeCast S8x1x256 (shapeCast S8x1x256 (shapeCast S8x256 s shapeCasts_S8x256_S8x256) shapeCasts_S8x256_S8x1x256) shapeCasts_S8x1x256_S8x1x256) broadcasts_S8x1x256_S8x32x256) shapeCasts_S8x32x256_S256x256

/-- One chunk's contribution: a slab of the permuted activations times the dequantised weight tile. -/
def chunk (w : Vec F S256x128 .i8) (s m : Vec F S8x256 .bf16) (xp : Vec F S8x256 .f32) : FVec F S8x256 .f32 :=
  matmul dot_S8x256_S256x256_S8x256_1_0_0_1_n_n none (truncf .bf16 (xp : FVec F S8x256 .f32) bitsLt_bf16_f32)
    (addf (mulf (codes w) (rows s)) (rows m)) (constant S8x256 .f32 0x00000000#32)

/-- A weight tile lies in the weight block. -/
theorem inbW (t c : ℕ) (ht : t < 2) (hc : c < 28) : ∀ a, (![256 * t, 128 * c] : Fin 2 → ℕ) a + (![256, 128] : Fin 2 → ℕ) a ≤ S512x3584.size a := by
  intro a; fin_cases a
  · show 256 * t + 256 ≤ 512; omega
  · show 128 * c + 128 ≤ 3584; omega

/-- A tile of group rows lies in the scale block. -/
theorem inbS (t c : ℕ) (ht : t < 2) (hc : c < 28) : ∀ a, (![8 * c, 256 * t] : Fin 2 → ℕ) a + (![8, 256] : Fin 2 → ℕ) a ≤ S224x512.size a := by
  intro a; fin_cases a
  · show 8 * c + 8 ≤ 224; omega
  · show 256 * t + 256 ≤ 512; omega

/-- A slab of eight rows lies in the permuted activations. -/
theorem inbX (c : ℕ) (hc : c < 28) : ∀ a, (![8 * c, 0] : Fin 2 → ℕ) a + (![8, 256] : Fin 2 → ℕ) a ≤ S224x256.size a := by
  intro a; fin_cases a
  · show 8 * c + 8 ≤ 224; omega
  · show 0 + 256 ≤ 256; omega

/-- A slab of 256 columns lies in the activations. -/
theorem inbA (c : ℕ) (hc : c < 28) : ∀ a, (![0, 256 * c] : Fin 2 → ℕ) a + (![8, 256] : Fin 2 → ℕ) a ≤ S8x7168.size a := by
  intro a; fin_cases a
  · show 0 + 8 ≤ 8; omega
  · show 256 * c + 256 ≤ 7168; omega

/-- Chunk `c` of tile `t`, read from the blocks. -/
def chunkAt (x1 : Vec F S512x3584 .i8) (x2 x3 : Vec F S224x512 .bf16) (xp : Vec F S224x256 .f32) (t c : ℕ) (ht : t < 2) (hc : c < 28) : FVec F S8x256 .f32 :=
  chunk (View.ld x1 (Rect.unit (s := S512x3584) ![256 * t, 128 * c] ![256, 128] (inbW t c ht hc)))
    (View.ld x2 (Rect.unit (s := S224x512) ![8 * c, 256 * t] ![8, 256] (inbS t c ht hc)))
    (View.ld x3 (Rect.unit (s := S224x512) ![8 * c, 256 * t] ![8, 256] (inbS t c ht hc)))
    (View.ld xp (Rect.unit (s := S224x256) ![8 * c, 0] ![8, 256] (inbX c hc)))

/-- The logits of tile `t`, summed over the first `n` chunks. -/
def partialLogits (x1 : Vec F S512x3584 .i8) (x2 x3 : Vec F S224x512 .bf16) (xp : Vec F S224x256 .f32) (t : ℕ) (ht : t < 2) : (n : ℕ) → n ≤ 28 → FVec F S8x256 .f32
  | 0, _ => broadcast S8x256 (Scalar.ofBits .f32 0x00000000#32 : F .f32)
  | n + 1, h => addf (partialLogits x1 x2 x3 xp t ht n (Nat.le_of_succ_le h)) (chunkAt x1 x2 x3 xp t n ht h)

/-- The logits of tile `t`. -/
def logits (x1 : Vec F S512x3584 .i8) (x2 x3 : Vec F S224x512 .bf16) (xp : Vec F S224x256 .f32) (t : ℕ) (ht : t < 2) : FVec F S8x256 .f32 :=
  partialLogits x1 x2 x3 xp t ht 28 (Nat.le_refl 28)

/-- The vocabulary row of each lane of the tile that starts at `base` within step `i`. -/
def lanes (i : grid0.Coords) (base : BitVec 32) : IVec S8x256 32 :=
  addi (broadcast S8x256 (Scalar.addi (Scalar.muli (BitVec.ofNat 32 (i 0).val) 512#32) base)) (iota .tc S8x256 32 [1] iota_S8x256_d1_w32)

/-- The running best of each lane after a tile. -/
def newBest (L b : FVec F S8x256 .f32) : FVec F S8x256 .f32 := select (cmpf .ogt L b) L b

/-- The running second best of each lane after a tile. -/
def newSecond (L b s : FVec F S8x256 .f32) : FVec F S8x256 .f32 := select (cmpf .ogt L b) b (maximumf s L)

/-- The running index of each lane after a tile. -/
def newIdx (L b : FVec F S8x256 .f32) (v k : IVec S8x256 32) : IVec S8x256 32 := select (cmpf .ogt L b) v k

/-- A cast that keeps the shape keeps the vector. -/
theorem cast_same {s : Shape} {α : Type} (x : s.Idx → α) (h : s.ShapeCasts s) : shapeCast s x h = x := by
  funext j
  simp [shapeCast]

section
variable (L b s : Vec F S8x256 .f32) (p : IVec S8x256 1) (k v : IVec S8x256 32) (M W W' : FVec F S256x256 .bf16) (mn : Vec F S8x256 .bf16) (xp : Vec F S8x256 .f32) (arg0 : BitVec 32)

theorem pay1_eq : k0_pay1 (F := F) b p s = select p b s := cast_same _ _
theorem pay2_eq : k0_pay2 (F := F) L b p = select p L b := cast_same _ _
theorem pay3_eq : k0_pay3 (F := F) v p k = select p v k := cast_same _ _
theorem pay86_eq : k0_pay86 (F := F) L W W' mn xp b s = newSecond (k0_pay84 L W W' mn xp) b s := cast_same _ _
theorem pay87_eq : k0_pay87 (F := F) L W W' mn xp b = newBest (k0_pay84 L W W' mn xp) b := cast_same _ _
theorem pay88_eq : k0_pay88 (F := F) arg0 L W W' mn xp b k = newIdx (k0_pay84 L W W' mn xp) b
    (addi (broadcast S8x256 (Scalar.addi (Scalar.muli arg0 512#32) 0#32)) (iota .tc S8x256 32 [1] iota_S8x256_d1_w32)) k := cast_same _ _
theorem pay30_eq (x : FVec F S224x256 .f32) : k0_pay30 (F := F) x = x := cast_same _ _
theorem pay31_eq : k0_pay31 (F := F) = broadcast S8x256 (Scalar.ofBits .f32 0xFF800000#32 : F .f32) := cast_same _ _
theorem pay32_eq : k0_pay32 (F := F) = broadcast S8x256 (Scalar.ofBits .f32 0xFF800000#32 : F .f32) := cast_same _ _
theorem pay33_eq : k0_pay33 = broadcast S8x256 0#32 := cast_same _ _
end

/-- The permutation matrix, as printed. -/
def permMat : FVec F S256x256 .bf16 :=
  k0_pay14 (k0_pay12 (iota .tc S256x256 32 [0] iota_S256x256_d0_w32) (iota .tc S256x256 32 [1] iota_S256x256_d1_w32) k0_pay9 k0_pay10 k0_pay11)
    (Scalar.ofBits .f32 0x00000000#32 : F .f32) (k0_pay13 (F := F))

/-- Slab `c` of the activations: 256 columns. -/
def slab (x0 : Vec F S8x7168 .bf16) (c : ℕ) (hc : c < 28) : FVec F S8x256 .bf16 :=
  shapeCast S8x256 (View.ld x0 (Rect.unit (s := S8x7168) ![0, 256 * c] ![8, 256] (inbA c hc)) : Vec F S8x256 .bf16) shapeCasts_S8x256_S8x256

/-- The 28 slabs stacked. -/
def stacked (x0 : Vec F S8x7168 .bf16) : FVec F S224x256 .bf16 :=
  concatenate S224x256 0 [⟨S8x256, slab x0 0 (by decide)⟩, ⟨S8x256, slab x0 1 (by decide)⟩, ⟨S8x256, slab x0 2 (by decide)⟩, ⟨S8x256, slab x0 3 (by decide)⟩, ⟨S8x256, slab x0 4 (by decide)⟩, ⟨S8x256, slab x0 5 (by decide)⟩, ⟨S8x256, slab x0 6 (by decide)⟩, ⟨S8x256, slab x0 7 (by decide)⟩, ⟨S8x256, slab x0 8 (by decide)⟩, ⟨S8x256, slab x0 9 (by decide)⟩, ⟨S8x256, slab x0 10 (by decide)⟩, ⟨S8x256, slab x0 11 (by decide)⟩, ⟨S8x256, slab x0 12 (by decide)⟩, ⟨S8x256, slab x0 13 (by decide)⟩, ⟨S8x256, slab x0 14 (by decide)⟩, ⟨S8x256, slab x0 15 (by decide)⟩, ⟨S8x256, slab x0 16 (by decide)⟩, ⟨S8x256, slab x0 17 (by decide)⟩, ⟨S8x256, slab x0 18 (by decide)⟩, ⟨S8x256, slab x0 19 (by decide)⟩, ⟨S8x256, slab x0 20 (by decide)⟩, ⟨S8x256, slab x0 21 (by decide)⟩, ⟨S8x256, slab x0 22 (by decide)⟩, ⟨S8x256, slab x0 23 (by decide)⟩, ⟨S8x256, slab x0 24 (by decide)⟩, ⟨S8x256, slab x0 25 (by decide)⟩, ⟨S8x256, slab x0 26 (by decide)⟩, ⟨S8x256, slab x0 27 (by decide)⟩] concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S224x256_d0

/-- The permuted activations: the stacked slabs times the permutation matrix. -/
def permuted (x0 : Vec F S8x7168 .bf16) : FVec F S224x256 .f32 :=
  matmul dot_S224x256_S256x256_S224x256_1_0_0_1_n_n none (stacked x0) permMat (constant S224x256 .f32 0x00000000#32)

/-- The initial running values. -/
def negInf : FVec F S8x256 .f32 := broadcast S8x256 (Scalar.ofBits .f32 0xFF800000#32 : F .f32)

/-- A slab of the permuted activations, read back after the one store that wrote the whole scratch. -/
theorem xp_read {κ : Kind} {sp : Space} (v : View sig κ sp S224x256 .f32) (inb : ∀ a, (![0, 0] : Fin 2 → ℕ) a + S224x256.size a ≤ S224x256.size a)
    (P : Vec F S224x256 .f32) (r : Rect S224x256) :
    v.readCov [(⟨Rect.unit (s := S224x256) ![0, 0] (no_index S224x256.size) inb, P⟩ : View.Piece (Elt F) S224x256 .f32)] r.toLoadRect = View.ld P r := by
  rw [View.readCov_eq_canon', View.canon_cons_unit_lit inb P [] (by intro a; fin_cases a <;> rfl)]

end Cert.KernelIdeal.Body

end
-- ==== Proof.Reads.lean ====
module

public import proofs.«01_k».proof.Proof.Body
public import Idealize.ShloMosaic.Lib.Pointwise
public import Idealize.ShloMosaic.Lib.ValueIdx

@[expose] public section

set_option maxRecDepth 16384

noncomputable section

/- What each piece of the step's arithmetic holds at one index, in the extended reals. -/

namespace Cert.KernelIdeal.Body

open Cert.KernelIdeal Cert.KernelIdeal.Gen Idealize.ShloMosaic Idealize.ShloMosaic.TcCoe Idealize.SL.Sem
open scoped BigOperators

/-- The value of one 4-bit code of a byte: the low nibble for `h = 0`, the high one otherwise. -/
def nib (h : ℕ) (b : BitVec 8) : EReal :=
  if h < 1 then FloatOps.sitofp (F := Ideal) .bf16 (IntOp.andi (BitVec.setWidth 32 b) 15#32)
  else FloatOps.sitofp (F := Ideal) .bf16 (IntOp.shrsi ArithUnit.vector (BitVec.setWidth 32 b) 4#32)

/-- Code `k` of output lane `l` is a nibble of byte `k / 2` of that row. -/
theorem codes_apply (w : Vec Ideal S256x128 .i8) (k l : Fin 256) :
    codes w (ix2 k l) = nib (k.val % 2) (w (ix2 l (⟨k.val / 2, by omega⟩ : Fin 128))) := by
  pointwise [codes]
  unfold nib
  split <;> rfl

/-- Each group row serves 32 codes. -/
theorem rows_apply (s : Vec Ideal S8x256 .bf16) (k l : Fin 256) : rows s (ix2 k l) = s (ix2 (⟨k.val / 32, by omega⟩ : Fin 8) l) := by
  pointwise [rows]

/-- One chunk's contribution is a sum over its 256 codes. -/
theorem chunk_apply (w : Vec Ideal S256x128 .i8) (s m : Vec Ideal S8x256 .bf16) (xp : Vec Ideal S8x256 .f32) (b : Fin 8) (l : Fin 256) :
    chunk w s m xp (ix2 b l) = ∑ k : Fin 256, xp (ix2 b k) * (codes w (ix2 k l) * rows s (ix2 k l) + rows m (ix2 k l)) := by
  pointwise [chunk]

theorem permuted_apply' (x0 : Vec Ideal S8x7168 .bf16) (r : Fin 224) (q : Fin 256) : permuted x0 (ix2 r q) = ∑ p : Fin 256, stacked x0 (ix2 r p) * permMat (F := Ideal) (ix2 p q) := by
  pointwise [permuted]

theorem slab_apply (x0 : Vec Ideal S8x7168 .bf16) (c : ℕ) (hc : c < 28) (b : Fin 8) (p : Fin 256) :
    slab x0 c hc (ix2 b p) = x0 (ix2 b (⟨256 * c + p.val, by omega⟩ : Fin 7168)) := by
  unfold slab
  refine (congrFun (cast_same _ _) _).trans ?_
  show x0 _ = x0 _
  congr 1
  funext a
  fin_cases a <;> (apply Fin.ext; simp [Rect.unit, Rect.emb, ix2] )

theorem stacked_apply (x0 : Vec Ideal S8x7168 .bf16) (r : Fin 224) (p : Fin 256) :
    stacked x0 (ix2 r p) = slab x0 (r.val / 8) (by omega) (ix2 (⟨r.val % 8, by omega⟩ : Fin 8) p) := by
  exact concatenate_ofFn_apply (s₁ := S8x256) (t := S224x256) 0 (N := 28) (fun n : Fin 28 => slab x0 n.val n.isLt) _ rfl 8 rfl (ix2 r p) ⟨r.val / 8, by omega⟩ rfl _ rfl (by intro b hb; fin_cases b; exact absurd rfl hb; rfl)

/-- The column index computed for the permutation matrix, as the words compute it. -/
def elemWord (q : BitVec 32) : BitVec 32 :=
  let v1733 : BitVec 32 := q
  let v1734 : BitVec 32 := 2#32
  let v1735 : BitVec 32 := IntOp.divsi .vector v1733 v1734
  let v1736 : BitVec 32 := 0#32
  let v1737 : BitVec 1 := IntOp.cmpi .sgt v1733 v1736
  let v1738 : BitVec 32 := BitVec.setWidth 32 v1737
  let v1739 : BitVec 32 := 0#32
  let v1740 : BitVec 1 := IntOp.cmpi .slt v1733 v1739
  let v1741 : BitVec 32 := BitVec.setWidth 32 v1740
  let v1742 : BitVec 32 := IntOp.subi v1738 v1741
  let v1743 : BitVec 1 := Scalar.cmpi .sgt 2#32 0#32
  let v1744 : BitVec 32 := Scalar.extui v1743
  let v1745 : BitVec 1 := Scalar.cmpi .slt 2#32 0#32
  let v1746 : BitVec 32 := Scalar.extui v1745
  let v1747 : BitVec 32 := Scalar.subi v1744 v1746
  let v1748 : BitVec 32 := v1747
  let v1749 : BitVec 1 := IntOp.cmpi .ne v1742 v1748
  let v1750 : BitVec 32 := 2#32
  let v1751 : BitVec 32 := IntOp.remsi .vector v1733 v1750
  let v1752 : BitVec 32 := 0#32
  let v1753 : BitVec 1 := IntOp.cmpi .ne v1751 v1752
  let v1754 : BitVec 1 := IntOp.andi v1749 v1753
  let v1755 : BitVec 32 := 1#32
  let v1756 : BitVec 32 := IntOp.subi v1735 v1755
  let v1757 : BitVec 32 := Scalar.select v1754 v1756 v1735
  let v1758 : BitVec 32 := 16#32
  let v1759 : BitVec 32 := IntOp.divsi .vector v1757 v1758
  let v1760 : BitVec 32 := 0#32
  let v1761 : BitVec 1 := IntOp.cmpi .sgt v1757 v1760
  let v1762 : BitVec 32 := BitVec.setWidth 32 v1761
  let v1763 : BitVec 32 := 0#32
  let v1764 : BitVec 1 := IntOp.cmpi .slt v1757 v1763
  let v1765 : BitVec 32 := BitVec.setWidth 32 v1764
  let v1766 : BitVec 32 := IntOp.subi v1762 v1765
  let v1767 : BitVec 1 := Scalar.cmpi .sgt 16#32 0#32
  let v1768 : BitVec 32 := Scalar.extui v1767
  let v1769 : BitVec 1 := Scalar.cmpi .slt 16#32 0#32
  let v1770 : BitVec 32 := Scalar.extui v1769
  let v1771 : BitVec 32 := Scalar.subi v1768 v1770
  let v1772 : BitVec 32 := v1771
  let v1773 : BitVec 1 := IntOp.cmpi .ne v1766 v1772
  let v1774 : BitVec 32 := 16#32
  let v1775 : BitVec 32 := IntOp.remsi .vector v1757 v1774
  let v1776 : BitVec 32 := 0#32
  let v1777 : BitVec 1 := IntOp.cmpi .ne v1775 v1776
  let v1778 : BitVec 1 := IntOp.andi v1773 v1777
  let v1779 : BitVec 32 := 1#32
  let v1780 : BitVec 32 := IntOp.subi v1759 v1779
  let v1781 : BitVec 32 := Scalar.select v1778 v1780 v1759
  let v1782 : BitVec 32 := 32#32
  let v1783 : BitVec 32 := IntOp.muli v1781 v1782
  let v1784 : BitVec 1 := Scalar.cmpi .eq 16#32 0#32
  let v1785 : BitVec 32 := Scalar.select v1784 1#32 16#32
  let v1786 : BitVec 32 := v1785
  let v1787 : BitVec 32 := IntOp.remsi .vector v1757 v1786
  let v1788 : BitVec 32 := 0#32
  let v1789 : BitVec 1 := IntOp.cmpi .ne v1787 v1788
  let v1790 : BitVec 32 := 0#32
  let v1791 : BitVec 1 := IntOp.cmpi .slt v1787 v1790
  let v1792 : BitVec 1 := Scalar.cmpi .slt v1785 0#32
  let v1793 : BitVec 1 := v1792
  let v1794 : BitVec 1 := v1793
  let v1795 : BitVec 1 := IntOp.xori v1791 v1794
  let v1796 : BitVec 1 := IntOp.andi v1795 v1789
  let v1797 : BitVec 32 := v1785
  let v1798 : BitVec 32 := IntOp.addi v1787 v1797
  let v1799 : BitVec 32 := Scalar.select v1796 v1798 v1787
  let v1800 : BitVec 32 := IntOp.addi v1783 v1799
  let v1801 : BitVec 1 := Scalar.cmpi .eq 2#32 0#32
  let v1802 : BitVec 32 := Scalar.select v1801 1#32 2#32
  let v1803 : BitVec 32 := v1802
  let v1804 : BitVec 32 := IntOp.remsi .vector v1733 v1803
  let v1805 : BitVec 32 := 0#32
  let v1806 : BitVec 1 := IntOp.cmpi .ne v1804 v1805
  let v1807 : BitVec 32 := 0#32
  let v1808 : BitVec 1 := IntOp.cmpi .slt v1804 v1807
  let v1809 : BitVec 1 := Scalar.cmpi .slt v1802 0#32
  let v1810 : BitVec 1 := v1809
  let v1811 : BitVec 1 := v1810
  let v1812 : BitVec 1 := IntOp.xori v1808 v1811
  let v1813 : BitVec 1 := IntOp.andi v1812 v1806
  let v1814 : BitVec 32 := v1802
  let v1815 : BitVec 32 := IntOp.addi v1804 v1814
  let v1816 : BitVec 32 := Scalar.select v1813 v1815 v1804
  let v1817 : BitVec 32 := 16#32
  let v1818 : BitVec 32 := IntOp.muli v1817 v1816
  let v1819 : BitVec 32 := IntOp.addi v1800 v1818
  v1819

theorem pay12_word (p q : Fin 256) : k0_pay12 (iota .tc S256x256 32 [0] iota_S256x256_d0_w32) (iota .tc S256x256 32 [1] iota_S256x256_d1_w32) k0_pay9 k0_pay10 k0_pay11 (ix2 p q) =
    IntOp.cmpi .eq (BitVec.ofNat 32 p.val) (elemWord (BitVec.ofNat 32 q.val)) := by
  unfold elemWord
  pointwise [k0_pay9, k0_pay10, k0_pay11, k0_pay12]

theorem permMat_word (p q : Fin 256) : permMat (F := Ideal) (ix2 p q) =
    if BitVec.ofNat 32 p.val = elemWord (BitVec.ofNat 32 q.val) then 1 else 0 := by
  have h := pay12_word p q
  have h1 : Ideal.ofBits .f32 0x3F800000#32 = 1 := by simp
  have h0 : Ideal.ofBits .f32 0x00000000#32 = 0 := by simp
  unfold permMat
  pointwise [k0_pay14, k0_pay13]
  rw [h]
  by_cases h : BitVec.ofNat 32 p.val = elemWord (BitVec.ofNat 32 q.val)
  · simp [Scalar.select, IntOp.cmpi, h, h1]
  · have hb : (BitVec.ofNat 32 p.val == elemWord (BitVec.ofNat 32 q.val)) = false := by simpa using h
    simp [Scalar.select, IntOp.cmpi, h, hb, h0]

theorem elemWord_eq : ∀ q : Fin 256, elemWord (BitVec.ofNat 32 q.val) = BitVec.ofNat 32 ((q.val / 32) * 32 + (q.val / 2) % 16 + 16 * (q.val % 2)) := by
  decide +kernel

/-- The column of the activations that code `q` of a chunk multiplies. -/
def elem (q : ℕ) : ℕ := (q / 32) * 32 + (q / 2) % 16 + 16 * (q % 2)

theorem elem_lt (q : ℕ) (h : q < 256) : elem q < 256 := by unfold elem; omega

theorem permMat_apply (p q : Fin 256) : permMat (F := Ideal) (ix2 p q) = if p.val = elem q.val then 1 else 0 := by
  rw [permMat_word, elemWord_eq]
  have hq := elem_lt q.val q.isLt
  unfold elem at hq ⊢
  congr 1
  apply propext
  constructor
  · intro h
    have := congrArg BitVec.toNat h
    simp only [BitVec.toNat_ofNat] at this
    omega
  · intro h; rw [h]

/-- Row `8 c + b` of the carried activations is row `b` of slab `c`, its columns permuted to the order of the codes. -/
theorem permuted_apply (x0 : Vec Ideal S8x7168 .bf16) (c : Fin 28) (b : Fin 8) (q : Fin 256) :
    permuted x0 (ix2 (⟨8 * c.val + b.val, by omega⟩ : Fin 224) q) = x0 (ix2 b (⟨256 * c.val + elem q.val, by have := elem_lt q.val q.isLt; omega⟩ : Fin 7168)) := by
  rw [permuted_apply', Finset.sum_eq_single (⟨elem q.val, elem_lt q.val q.isLt⟩ : Fin 256)]
  · rw [permMat_apply, if_pos rfl, mul_one, stacked_apply, slab_apply]
    have e1 : (8 * c.val + b.val) / 8 = c.val := by omega
    have e2 : (8 * c.val + b.val) % 8 = b.val := by omega
    simp only [e1, e2]
  · intro p _ hp
    rw [permMat_apply, if_neg (fun h => hp (Fin.ext h)), mul_zero]
  · intro h; exact absurd (Finset.mem_univ _) h

theorem chunkAt_apply (x1 : Vec Ideal S512x3584 .i8) (x2 x3 : Vec Ideal S224x512 .bf16) (xp : Vec Ideal S224x256 .f32) (t c : ℕ) (ht : t < 2) (hc : c < 28) (b : Fin 8) (l : Fin 256) :
    chunkAt x1 x2 x3 xp t c ht hc (ix2 b l) = ∑ k : Fin 256,
      xp (ix2 (⟨8 * c + b.val, by omega⟩ : Fin 224) k) *
        (nib (k.val % 2) (x1 (ix2 (⟨256 * t + l.val, by omega⟩ : Fin 512) (⟨128 * c + k.val / 2, by omega⟩ : Fin 3584)))
          * x2 (ix2 (⟨8 * c + k.val / 32, by omega⟩ : Fin 224) (⟨256 * t + l.val, by omega⟩ : Fin 512))
          + x3 (ix2 (⟨8 * c + k.val / 32, by omega⟩ : Fin 224) (⟨256 * t + l.val, by omega⟩ : Fin 512))) := by
  unfold chunkAt
  rw [chunk_apply]
  refine Finset.sum_congr rfl fun k _ => ?_
  rw [codes_apply, rows_apply, rows_apply]
  have e1 : ∀ (r : Fin 8) (q : Fin 256), View.ld xp (Rect.unit (s := S224x256) ![8 * c, 0] ![8, 256] (inbX c hc)) (ix2 r q) = xp (ix2 (⟨8 * c + r.val, by omega⟩ : Fin 224) q) := by
    intro r q
    show xp _ = xp _
    congr 1
    funext a
    fin_cases a <;> (apply Fin.ext; simp [Rect.unit, Rect.emb, ix2])
  have e2 : ∀ (x : Vec Ideal S224x512 .bf16) (r : Fin 8) (q : Fin 256), View.ld x (Rect.unit (s := S224x512) ![8 * c, 256 * t] ![8, 256] (inbS t c ht hc)) (ix2 r q) = x (ix2 (⟨8 * c + r.val, by omega⟩ : Fin 224) (⟨256 * t + q.val, by omega⟩ : Fin 512)) := by
    intro x r q
    show x _ = x _
    congr 1
    funext a
    fin_cases a <;> (apply Fin.ext; simp [Rect.unit, Rect.emb, ix2])
  have e3 : ∀ (r : Fin 256) (q : Fin 128), View.ld x1 (Rect.unit (s := S512x3584) ![256 * t, 128 * c] ![256, 128] (inbW t c ht hc)) (ix2 r q) = x1 (ix2 (⟨256 * t + r.val, by omega⟩ : Fin 512) (⟨128 * c + q.val, by omega⟩ : Fin 3584)) := by
    intro r q
    show x1 _ = x1 _
    congr 1
    funext a
    fin_cases a <;> (apply Fin.ext; simp [Rect.unit, Rect.emb, ix2])
  rw [e1, e2, e2, e3]

/-- A tile's logits are the sum of its chunks. -/
theorem logits_apply (x1 : Vec Ideal S512x3584 .i8) (x2 x3 : Vec Ideal S224x512 .bf16) (xp : Vec Ideal S224x256 .f32) (t : ℕ) (ht : t < 2) (b : Fin 8) (l : Fin 256) :
    logits x1 x2 x3 xp t ht (ix2 b l) = ∑ c : Fin 28, chunkAt x1 x2 x3 xp t c.val ht c.isLt (ix2 b l) := by
  have key : ∀ (n : ℕ) (hn : n ≤ 28), partialLogits x1 x2 x3 xp t ht n hn (ix2 b l) = ∑ c : Fin n, chunkAt x1 x2 x3 xp t c.val ht (by omega) (ix2 b l) := by
    intro n
    induction n with
    | zero => intro hn; show Ideal.ofBits .f32 0x00000000#32 = _; simp
    | succ n ih => intro hn; rw [Fin.sum_univ_castSucc]; show _ + _ = _ + _; rw [ih (by omega)]; rfl
  exact key 28 (Nat.le_refl 28)

end Cert.KernelIdeal.Body

end
-- ==== Proof.RefSpec.lean ====
module

public import proofs.«01_k».proof.Proof.Gen.ReferenceIdeal.Run
public import proofs.«01_k».proof.Proof.Top2
public import proofs.«01_k».proof.Proof.Reads
public import proofs.«01_k».proof.Proof.Top2
public import Idealize.ShloMosaic.Lib.Pointwise
public import Idealize.ShloMosaic.Lib.ValueIdx
public import Idealize.ShloMosaic.Lib.TwoAxisContraction
public import Idealize.ShloMosaic.Lib.Pipeline.ValueKit

@[expose] public section

set_option maxRecDepth 16384

noncomputable section

/- The reference's three results, read at one index in the extended reals. -/

namespace Cert.ReferenceIdeal.Spec

open Cert.ReferenceIdeal Cert.ReferenceIdeal.Gen Idealize.ShloMosaic Idealize.ShloMosaic.TcCoe Idealize.SL.Sem
open scoped BigOperators

variable {F : FTy → Type} [FloatOps F]

/-- The reference's logits of its four arguments. -/
def refLogits (x0 : Vec F S8x1x7168 .bf16) (x1 : Vec F S32256x3584 .i8) (x2 x3 : Vec F S32256x224 .bf16) : FVec F S8x1x32256 .f32 :=
  addf (Host.dotGeneral dot_S8x1x224x16_S32256x224x16_S8x1x32256_23_12_01_0_n_n none (extractStridedSlice S8x1x224x16 ![0, 0, 0, 0] (shapeCast _ x0 shapeCasts_S8x1x7168_S8x1x224x32) slices_S8x1x224x32_S8x1x224x16_0_0_0_0) (addf (mulf (sitofp .bf16 (andi (shapeCast _ (extui 32 x1 natLt_8_32) shapeCasts_S32256x3584_S32256x224x16) (broadcastInDim S32256x224x16 ![] bcast_S_S32256x224x16 (constantI S_ 32 15#32)))) (broadcastInDim S32256x224x16 ![0, 1, 2] bcast_S32256x224x1_S32256x224x16_0_1_2 (broadcastInDim S32256x224x1 ![0, 1] bcast_S32256x224_S32256x224x1_0_1 x2))) (broadcastInDim S32256x224x16 ![0, 1, 2] bcast_S32256x224x1_S32256x224x16_0_1_2 (broadcastInDim S32256x224x1 ![0, 1] bcast_S32256x224_S32256x224x1_0_1 x3)))) (Host.dotGeneral dot_S8x1x224x16_S32256x224x16_S8x1x32256_23_12_01_0_n_n none (extractStridedSlice S8x1x224x16 ![0, 0, 0, 16] (shapeCast _ x0 shapeCasts_S8x1x7168_S8x1x224x32) slices_S8x1x224x32_S8x1x224x16_0_0_0_16) (addf (mulf (sitofp .bf16 (Host.shrsi (shapeCast _ (extui 32 x1 natLt_8_32) shapeCasts_S32256x3584_S32256x224x16) (broadcastInDim S32256x224x16 ![] bcast_S_S32256x224x16 (constantI S_ 32 4#32)))) (broadcastInDim S32256x224x16 ![0, 1, 2] bcast_S32256x224x1_S32256x224x16_0_1_2 (broadcastInDim S32256x224x1 ![0, 1] bcast_S32256x224_S32256x224x1_0_1 x2))) (broadcastInDim S32256x224x16 ![0, 1, 2] bcast_S32256x224x1_S32256x224x16_0_1_2 (broadcastInDim S32256x224x1 ![0, 1] bcast_S32256x224_S32256x224x1_0_1 x3))))

/-- The reference's token. -/
def refToken (x0 : Vec F S8x1x7168 .bf16) (x1 : Vec F S32256x3584 .i8) (x2 x3 : Vec F S32256x224 .bf16) : IVec S8x128 32 :=
  broadcastInDim S8x128 ![0, 1] bcast_S8x1_S8x128_0_1 (shapeCast _ (extractStridedSlice S8x1x1 ![0, 0, 0] ((Host.topK S8x1x2 2 (FloatOps.cmpfTotal .gt) (refLogits x0 x1 x2 x3) sliceFits_S8x1x32256_S8x1x2).2) slices_S8x1x2_S8x1x1_0_0_0) shapeCasts_S8x1x1_S8x1)

/-- The reference's margin. -/
def refMargin (x0 : Vec F S8x1x7168 .bf16) (x1 : Vec F S32256x3584 .i8) (x2 x3 : Vec F S32256x224 .bf16) : FVec F S8x128 .f32 :=
  broadcastInDim S8x128 ![0, 1] bcast_S8x1_S8x128_0_1 (subf (shapeCast _ (extractStridedSlice S8x1x1 ![0, 0, 0] ((Host.topK S8x1x2 2 (FloatOps.cmpfTotal .gt) (refLogits x0 x1 x2 x3) sliceFits_S8x1x32256_S8x1x2).1) slices_S8x1x2_S8x1x1_0_0_0) shapeCasts_S8x1x1_S8x1) (shapeCast _ (extractStridedSlice S8x1x1 ![0, 0, 1] ((Host.topK S8x1x2 2 (FloatOps.cmpfTotal .gt) (refLogits x0 x1 x2 x3) sliceFits_S8x1x32256_S8x1x2).1) slices_S8x1x2_S8x1x1_0_0_1) shapeCasts_S8x1x1_S8x1))

/-- The reference's greatest logit. -/
def refTop (x0 : Vec F S8x1x7168 .bf16) (x1 : Vec F S32256x3584 .i8) (x2 x3 : Vec F S32256x224 .bf16) : FVec F S8x128 .f32 :=
  broadcastInDim S8x128 ![0, 1] bcast_S8x1_S8x128_0_1 (shapeCast _ (extractStridedSlice S8x1x1 ![0, 0, 0] ((Host.topK S8x1x2 2 (FloatOps.cmpfTotal .gt) (refLogits x0 x1 x2 x3) sliceFits_S8x1x32256_S8x1x2).1) slices_S8x1x2_S8x1x1_0_0_0) shapeCasts_S8x1x1_S8x1)

open Cert.KernelIdeal.Body (nib elem elem_lt)

/-- One product of the logits: group `g`, code pair `j`, nibble `p`. -/
def term (x0 : Vec Ideal S8x1x7168 .bf16) (x1 : Vec Ideal S32256x3584 .i8) (x2 x3 : Vec Ideal S32256x224 .bf16) (b : Fin 8) (v : Fin 32256) (g j p : ℕ) : EReal :=
  if h : g < 224 ∧ j < 16 ∧ p < 2 then
    x0 (ix3 b (0 : Fin 1) (⟨32 * g + 16 * p + j, by omega⟩ : Fin 7168)) *
      (nib p (x1 (ix2 v (⟨16 * g + j, by omega⟩ : Fin 3584))) * x2 (ix2 v (⟨g, by omega⟩ : Fin 224)) + x3 (ix2 v (⟨g, by omega⟩ : Fin 224)))
  else 0

/-- The host's shift and the vector unit's agree on a byte's high nibble. -/
theorem shr_eq : ∀ b : BitVec 8, IntOp.shrsi ArithUnit.host (BitVec.setWidth 32 b) 4#32 = IntOp.shrsi ArithUnit.vector (BitVec.setWidth 32 b) 4#32 := by
  intro b
  simp [IntOp.shrsi]

theorem refLogits_apply (x0 : Vec Ideal S8x1x7168 .bf16) (x1 : Vec Ideal S32256x3584 .i8) (x2 x3 : Vec Ideal S32256x224 .bf16) (b : Fin 8) (v : Fin 32256) :
    refLogits x0 x1 x2 x3 (ix3 b 0 v) = ∑ g : Fin 224, ∑ j : Fin 16, term x0 x1 x2 x3 b v g.val j.val 0 + ∑ g : Fin 224, ∑ j : Fin 16, term x0 x1 x2 x3 b v g.val j.val 1 := by
  have e0 : ∀ (g : Fin 224) (j : Fin 16), term x0 x1 x2 x3 b v g.val j.val 0 = x0 (ix3 b 0 ⟨g.val * 32 + j.val, by omega⟩) *
            (FloatOps.sitofp (F := Ideal) FTy.bf16 (IntOp.andi (BitVec.setWidth 32 (x1 (ix2 v ⟨g.val * 16 + j.val, by omega⟩))) 15#32) * x2 (ix2 v g) + x3 (ix2 v g)) := by
    intro g j
    unfold term
    rw [dif_pos ⟨g.isLt, j.isLt, by decide⟩]
    unfold nib
    rw [if_pos (by decide)]
    have a1 : 32 * g.val + 16 * 0 + j.val = g.val * 32 + j.val := by omega
    have a2 : 16 * g.val + j.val = g.val * 16 + j.val := by omega
    simp only [a1, a2]
  have e1 : ∀ (g : Fin 224) (j : Fin 16), term x0 x1 x2 x3 b v g.val j.val 1 = x0 (ix3 b 0 ⟨g.val * 32 + (16 + j.val), by omega⟩) *
            (FloatOps.sitofp (F := Ideal) FTy.bf16 (IntOp.shrsi ArithUnit.host (BitVec.setWidth 32 (x1 (ix2 v ⟨g.val * 16 + j.val, by omega⟩))) 4#32) * x2 (ix2 v g) + x3 (ix2 v g)) := by
    intro g j
    unfold term
    rw [dif_pos ⟨g.isLt, j.isLt, by decide⟩]
    unfold nib
    rw [if_neg (by decide), shr_eq]
    have a1 : 32 * g.val + 16 * 1 + j.val = g.val * 32 + (16 + j.val) := by omega
    have a2 : 16 * g.val + j.val = g.val * 16 + j.val := by omega
    simp only [a1, a2]
  simp only [e0, e1]
  pointwise [refLogits]

/-- The sum over chunks and codes is the sum over groups, nibble by nibble. -/
theorem sum_codes (H : ℕ → ℕ → ℕ → EReal) :
    ∑ c : Fin 28, ∑ k : Fin 256, H (8 * c.val + k.val / 32) (k.val / 2 % 16) (k.val % 2) =
      ∑ g : Fin 224, ∑ j : Fin 16, H g.val j.val 0 + ∑ g : Fin 224, ∑ j : Fin 16, H g.val j.val 1 := by
  have h1 : ∀ c : ℕ, ∑ k : Fin 256, H (8 * c + k.val / 32) (k.val / 2 % 16) (k.val % 2) = ∑ a : Fin 8, ∑ j : Fin 16, (H (8 * c + a.val) j.val 0 + H (8 * c + a.val) j.val 1) := by
    intro c
    have e := Fin.sum_univ_mul_divmod 8 32 (fun a r => H (8 * c + a) (r / 2) (r % 2))
    refine Eq.trans ?_ (e.trans ?_)
    · refine Finset.sum_congr rfl fun k _ => ?_
      have a1 : k.val / 2 % 16 = k.val % 32 / 2 := by omega
      have a2 : k.val % 2 = k.val % 32 % 2 := by omega
      rw [a1]; exact congrArg _ a2
    · refine Finset.sum_congr rfl fun a _ => ?_
      refine (Fin.sum_univ_mul_divmod 16 2 (fun j p => H (8 * c + a.val) j p)).trans ?_
      refine Finset.sum_congr rfl fun j _ => ?_
      rw [Fin.sum_univ_two]; rfl
  have h2 : ∀ f : ℕ → EReal, ∑ c : Fin 28, ∑ a : Fin 8, f (8 * c.val + a.val) = ∑ g : Fin 224, f g.val := by
    intro f
    refine (Fin.sum_univ_mul_divmod 28 8 (fun c a => f (8 * c + a))).symm.trans ?_
    refine Finset.sum_congr rfl fun g _ => ?_
    congr 1
    have := Nat.div_add_mod g.val 8
    omega
  simp only [h1]
  rw [h2 (fun g => ∑ j : Fin 16, (H g j.val 0 + H g j.val 1))]
  simp only [Finset.sum_add_distrib]

open Cert.Proof.Top2

/-- The line of logits of batch row `b`. -/
def line (L : FVec Ideal S8x1x32256 .f32) (b : Fin 8) : Fin 32256 → EReal := fun v => L (ix3 b (0 : Fin 1) v)

/-- Does position `k` come before position `k'` of row `b`? -/
def before (L : FVec Ideal S8x1x32256 .f32) (b : Fin 8) (k k' : Fin 32256) : Bool := FloatOps.cmpfTotal (F := Ideal) (φ := .f32) .gt (line L b k) (line L b k') == 1#1

theorem before_iff (L : FVec Ideal S8x1x32256 .f32) (b : Fin 8) (a c : Fin 32256) : before L b a c = true ↔ line L b c < line L b a := by
  show (BitVec.ofBool (decide (line L b a > line L b c)) == 1#1) = true ↔ _
  by_cases h : line L b a > line L b c <;> simp [h]

theorem along_row (b : Fin 8) (z k : Fin 32256) : (ix3 b (0 : Fin 1) z : S8x1x32256.Idx).along (2 : Fin 3) k = ix3 b (0 : Fin 1) k := by
  funext a
  fin_cases a <;> rfl

theorem before_row (L : FVec Ideal S8x1x32256 .f32) (b : Fin 8) (z : Fin 32256) : (fun k k' : Fin 32256 => FloatOps.cmpfTotal (F := Ideal) (φ := .f32) .gt (L ((ix3 b (0 : Fin 1) z : S8x1x32256.Idx).along (2 : Fin 3) k)) (L ((ix3 b (0 : Fin 1) z : S8x1x32256.Idx).along (2 : Fin 3) k')) == 1#1) = before L b := by
  funext k k'
  rw [along_row, along_row]
  rfl

theorem sort2_row (L : FVec Ideal S8x1x32256 .f32) (y : IVec S8x1x32256 32) (b : Fin 8) (z : Fin 32256) :
    (Host.sort2 S8x1x32256 2 (fun l r => FloatOps.cmpfTotal (F := Ideal) (φ := .f32) .gt l.1 r.1) L y).1 (ix3 b (0 : Fin 1) z) = line L b (sortedFrom (before L b) z) ∧
    (Host.sort2 S8x1x32256 2 (fun l r => FloatOps.cmpfTotal (F := Ideal) (φ := .f32) .gt l.1 r.1) L y).2 (ix3 b (0 : Fin 1) z) = y (ix3 b (0 : Fin 1) (sortedFrom (before L b) z)) := by
  have e : ∀ {α : Type} (x : S8x1x32256.Idx → α), x ((ix3 b (0 : Fin 1) z : S8x1x32256.Idx).along (2 : Fin 3) (sortedFrom (fun k k' : Fin 32256 => FloatOps.cmpfTotal (F := Ideal) (φ := .f32) .gt (L ((ix3 b (0 : Fin 1) z : S8x1x32256.Idx).along (2 : Fin 3) k)) (L ((ix3 b (0 : Fin 1) z : S8x1x32256.Idx).along (2 : Fin 3) k')) == 1#1) z)) = x (ix3 b (0 : Fin 1) (sortedFrom (before L b) z)) := by
    intro α x
    rw [before_row]
    exact congrArg x (along_row b z _)
  exact ⟨e L, e y⟩

/-- The reference's top two of a line: positions `p` and `q`, the values there and the first position. -/
theorem top2_line (L : FVec Ideal S8x1x32256 .f32) (b : Fin 8) : ∃ p q : Fin 32256, IsTop2 (line L b) p q ∧
    (Host.topK S8x1x2 2 (FloatOps.cmpfTotal .gt) L sliceFits_S8x1x32256_S8x1x2).1 (ix3 b (0 : Fin 1) (0 : Fin 2)) = line L b p ∧
    (Host.topK S8x1x2 2 (FloatOps.cmpfTotal .gt) L sliceFits_S8x1x32256_S8x1x2).1 (ix3 b (0 : Fin 1) (1 : Fin 2)) = line L b q ∧
    (Host.topK S8x1x2 2 (FloatOps.cmpfTotal .gt) L sliceFits_S8x1x32256_S8x1x2).2 (ix3 b (0 : Fin 1) (0 : Fin 2)) = BitVec.ofNat 32 p.val := by
  refine ⟨sortedFrom (before L b) ⟨0, by decide⟩, sortedFrom (before L b) ⟨1, by decide⟩, isTop2_sortedFrom (line L b) (before L b) (before_iff L b) (by decide) (by decide), ?_, ?_, ?_⟩
  · unfold Host.topK
    pointwise
    exact (sort2_row L _ b _).1
  · unfold Host.topK
    pointwise
    exact (sort2_row L _ b _).1
  · unfold Host.topK
    pointwise
    exact (sort2_row L _ b _).2

/-- The three results of a row, the same on all 128 columns. -/
theorem ref_results (x0 : Vec Ideal S8x1x7168 .bf16) (x1 : Vec Ideal S32256x3584 .i8) (x2 x3 : Vec Ideal S32256x224 .bf16) (b : Fin 8) : ∃ p q : Fin 32256, IsTop2 (line (refLogits x0 x1 x2 x3) b) p q ∧ ∀ l : Fin 128,
    refToken x0 x1 x2 x3 (ix2 b l) = BitVec.ofNat 32 p.val ∧
    refMargin x0 x1 x2 x3 (ix2 b l) = line (refLogits x0 x1 x2 x3) b p - line (refLogits x0 x1 x2 x3) b q ∧
    refTop x0 x1 x2 x3 (ix2 b l) = line (refLogits x0 x1 x2 x3) b p := by
  obtain ⟨p, q, h, h0, h1, hi⟩ := top2_line (refLogits x0 x1 x2 x3) b
  refine ⟨p, q, h, fun l => ⟨?_, ?_, ?_⟩⟩
  · rw [← hi]; pointwise [refToken]
  · rw [← h0, ← h1]; pointwise [refMargin]
  · rw [← h0]; pointwise [refTop]

/-- Every run of the reference ends with these results and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = refToken (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = refMargin (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v35) = refTop (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.Spec

end
-- ==== Proof.Blocks.lean ====
module

public import proofs.«01_k».proof.Proof.Reads
public import Idealize.ShloMosaic.Lib.StableHlo.ReadAt

@[expose] public section

set_option maxRecDepth 16384

noncomputable section

/- The input blocks of a grid step, read at one index of the arguments. -/

namespace Cert.KernelIdeal.Body

open Cert.KernelIdeal Cert.KernelIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![0, 0] ∧ win0_1.index t = ![t.val, 0] ∧ win0_2.index t = ![0, t.val] ∧ win0_3.index t = ![0, t.val] :=
  (by decide +kernel : ∀ t : Fin grid0.N, _)

theorem V0 (c : Dev nD) (j : S8x7168.Idx) : V m c main_v0 j = m ((c : Thread nD τ).loc main_arg0) (ix3 (j 0) (0 : Fin 1) (j 1)) := by
  unfold V
  after_reads_at

theorem V1 (c : Dev nD) (j : S224x32256.Idx) : V m c main_v1 j = m ((c : Thread nD τ).loc main_arg2) (ix2 (j 1) (j 0)) := by
  unfold V
  after_reads_at

theorem V2 (c : Dev nD) (j : S224x32256.Idx) : V m c main_v2 j = m ((c : Thread nD τ).loc main_arg3) (ix2 (j 1) (j 0)) := by
  unfold V
  after_reads_at

theorem iblk1 (c : Dev nD) (t : Fin cfg0.N) (r : Fin 512) (k : Fin 3584) (n : Fin 32256) (hn : n.val = 512 * t.val + r.val) : (iblk m c 1 t : Vec Ideal S512x3584 .i8) (ix2 r k) = m ((c : Thread nD τ).loc main_arg1) (ix2 n k) := by
  obtain ⟨e0, e1, e2, e3⟩ := idx t
  blk_simp [iblk, e1, V_main_arg1]
  rw [V_main_arg1]
  blk_ext! [e1]

theorem iblk0 (c : Dev nD) (t : Fin cfg0.N) (r : Fin 8) (k : Fin 7168) : (iblk m c 0 t : Vec Ideal S8x7168 .bf16) (ix2 r k) = m ((c : Thread nD τ).loc main_arg0) (ix3 r (0 : Fin 1) k) := by
  obtain ⟨e0, e1, e2, e3⟩ := idx t
  blk_simp [iblk, e0]
  refine (V0 m c _).trans ?_
  blk_ext! [e0]

theorem iblk2 (c : Dev nD) (t : Fin cfg0.N) (r : Fin 224) (k : Fin 512) (n : Fin 32256) (hn : n.val = 512 * t.val + k.val) : (iblk m c 2 t : Vec Ideal S224x512 .bf16) (ix2 r k) = m ((c : Thread nD τ).loc main_arg2) (ix2 n r) := by
  obtain ⟨e0, e1, e2, e3⟩ := idx t
  blk_simp [iblk, e2]
  refine (V1 m c _).trans ?_
  blk_ext! [e2]

theorem iblk3 (c : Dev nD) (t : Fin cfg0.N) (r : Fin 224) (k : Fin 512) (n : Fin 32256) (hn : n.val = 512 * t.val + k.val) : (iblk m c 3 t : Vec Ideal S224x512 .bf16) (ix2 r k) = m ((c : Thread nD τ).loc main_arg3) (ix2 n r) := by
  obtain ⟨e0, e1, e2, e3⟩ := idx t
  blk_simp [iblk, e3]
  refine (V2 m c _).trans ?_
  blk_ext! [e3]

end Cert.KernelIdeal.Body

end
-- ==== Proof.Tiles.lean ====
module

public import proofs.«01_k».proof.Proof.Blocks
public import proofs.«01_k».proof.Proof.RefSpec

@[expose] public section

set_option maxRecDepth 16384

noncomputable section

/- A grid step in terms of the reference's logits: its two tiles are 512 of them, and the carried lanes see them in order. -/

namespace Cert.KernelIdeal.Body

open Cert.KernelIdeal Cert.KernelIdeal.Gen Idealize.ShloMosaic Idealize.ShloMosaic.TcCoe Idealize.SL.Sem
open Cert.ReferenceIdeal.Spec (refLogits term refLogits_apply sum_codes)
open Cert.Proof.Top2
open scoped BigOperators

variable (m : (ℓ : Loc nD τ sig) → Buf (Elt Ideal) ℓ)

/-- The reference's logits of the kernel's arguments. -/
def L (c : Dev nD) : FVec Ideal Cert.ReferenceIdeal.S8x1x32256 .f32 :=
  refLogits (F := Ideal) (m ((c : Thread nD τ).loc main_arg0)) (m ((c : Thread nD τ).loc main_arg1)) (m ((c : Thread nD τ).loc main_arg2)) (m ((c : Thread nD τ).loc main_arg3))

/-- A tile's logits are the reference's. -/
theorem tile_eq (c : Dev nD) (t t' : Fin cfg0.N) (τ' : ℕ) (hτ : τ' < 2) (b : Fin 8) (l : Fin 256) (v : Fin 32256) (hv : v.val = 512 * t.val + 256 * τ' + l.val) :
    logits (F := Ideal) (iblk m c 1 t) (iblk m c 2 t) (iblk m c 3 t) (permuted (F := Ideal) (iblk m c 0 t')) τ' hτ (ix2 b l) = L m c (ix3 b (0 : Fin 1) v) := by
  rw [logits_apply]
  unfold L
  rw [refLogits_apply, ← sum_codes]
  refine Finset.sum_congr rfl fun ch _ => ?_
  rw [chunkAt_apply]
  refine Finset.sum_congr rfl fun k _ => ?_
  rw [permuted_apply, iblk0, iblk1 m c t _ _ v (by rw [hv]; dsimp only; omega), iblk2 m c t _ _ v (by rw [hv]; dsimp only; omega), iblk3 m c t _ _ v (by rw [hv]; dsimp only; omega)]
  unfold term
  rw [dif_pos (by omega)]
  have e1 : 256 * ch.val + elem k.val = 32 * (8 * ch.val + k.val / 32) + 16 * (k.val % 2) + k.val / 2 % 16 := by unfold elem; omega
  have e2 : 128 * ch.val + k.val / 2 = 16 * (8 * ch.val + k.val / 32) + k.val / 2 % 16 := by omega
  simp only [e1, e2]

theorem newBest_apply (x y : FVec Ideal S8x256 .f32) (b : Fin 8) (l : Fin 256) : newBest x y (ix2 b l) = if y (ix2 b l) < x (ix2 b l) then x (ix2 b l) else y (ix2 b l) := by
  show Scalar.select (BitVec.ofBool (decide (y (ix2 b l) < x (ix2 b l)))) _ _ = _
  by_cases h : y (ix2 b l) < x (ix2 b l) <;> simp [Scalar.select, h]

theorem newSecond_apply (x y s : FVec Ideal S8x256 .f32) (b : Fin 8) (l : Fin 256) : newSecond x y s (ix2 b l) = if y (ix2 b l) < x (ix2 b l) then y (ix2 b l) else max (s (ix2 b l)) (x (ix2 b l)) := by
  show Scalar.select (BitVec.ofBool (decide (y (ix2 b l) < x (ix2 b l)))) _ _ = _
  by_cases h : y (ix2 b l) < x (ix2 b l)
  · simp [Scalar.select, h]
  · simp [Scalar.select, h]; rfl

theorem newIdx_apply (x y : FVec Ideal S8x256 .f32) (v k : IVec S8x256 32) (b : Fin 8) (l : Fin 256) : newIdx x y v k (ix2 b l) = if y (ix2 b l) < x (ix2 b l) then v (ix2 b l) else k (ix2 b l) := by
  show Scalar.select (BitVec.ofBool (decide (y (ix2 b l) < x (ix2 b l)))) _ _ = _
  by_cases h : y (ix2 b l) < x (ix2 b l) <;> simp [Scalar.select, h]

theorem coord : ∀ t : Fin cfg0.N, ((grid0.coords t) 0).val = t.val :=
  (by decide +kernel : ∀ t : Fin grid0.N, _)

theorem lanes_apply (t : Fin cfg0.N) (base : ℕ) (hb : base < 512) (b : Fin 8) (l : Fin 256) : (lanes (grid0.coords t) (BitVec.ofNat 32 base) (ix2 b l)).toNat = 512 * t.val + base + l.val := by
  have e : lanes (grid0.coords t) (BitVec.ofNat 32 base) (ix2 b l) = BitVec.ofNat 32 ((grid0.coords t) 0).val * 512#32 + BitVec.ofNat 32 base + BitVec.ofNat 32 l.val := by
    pointwise [lanes]
    rfl
  have ht := t.isLt
  have hN : cfg0.N = 63 := N_0
  rw [e, coord]
  simp only [BitVec.toNat_add, BitVec.toNat_mul, BitVec.toNat_ofNat]
  omega

/-- The logit at lane `l` of tile `k`. -/
def lineAt (c : Dev nD) (b : Fin 8) (k l : ℕ) : EReal := if h : 256 * k + l < 32256 then L m c (ix3 b (0 : Fin 1) ⟨256 * k + l, h⟩) else ⊥

/-- The carried lanes after `n` tiles. -/
def Lanes (c : Dev nD) (n : ℕ) (B S : FVec Ideal S8x256 .f32) (K : IVec S8x256 32) : Prop :=
  ∀ (b : Fin 8) (l : Fin 256), LaneOK (lineAt m c b) l.val n (B (ix2 b l)) (S (ix2 b l)) (K (ix2 b l)).toNat

theorem Lanes.step {c : Dev nD} {n : ℕ} (hn : n < 126) {B S : FVec Ideal S8x256 .f32} {K : IVec S8x256 32} (h : Lanes m c n B S K) (X : FVec Ideal S8x256 .f32) (v : IVec S8x256 32)
    (hX : ∀ (b : Fin 8) (l : Fin 256), X (ix2 b l) = L m c (ix3 b (0 : Fin 1) (⟨256 * n + l.val, by omega⟩ : Fin 32256)))
    (hv : ∀ (b : Fin 8) (l : Fin 256), (v (ix2 b l)).toNat = 256 * n + l.val) :
    Lanes m c (n + 1) (newBest X B) (newSecond X B S) (newIdx X B v K) := by
  intro b l
  have hl := h b l
  have hx := hX b l
  rw [newBest_apply, newSecond_apply, newIdx_apply]
  have hg : (lineAt m c b) n l.val = X (ix2 b l) := by
    rw [hx]
    exact dif_pos (by omega)
  by_cases hw : B (ix2 b l) < X (ix2 b l)
  · rw [if_pos hw, if_pos hw, if_pos hw, hv, ← hg]
    exact laneOK_win _ _ _ _ _ _ hl (by rw [hg]; exact hw)
  · rw [if_neg hw, if_neg hw, if_neg hw, ← hg]
    exact laneOK_lose _ _ _ _ _ _ hl (by rw [hg]; exact hw)

theorem Lanes.zero (c : Dev nD) : Lanes m c 0 (negInf (F := Ideal)) (negInf (F := Ideal)) (broadcast S8x256 0#32) := by
  intro b l
  have e : negInf (F := Ideal) (ix2 b l) = ⊥ := by
    show Ideal.ofBits .f32 0xFF800000#32 = ⊥
    simp [Ideal.ofBits, Ideal.ieee]
  rw [e]
  exact laneOK_zero _ _

/-- Two tiles, one grid step. -/
theorem Lanes.step2 {c : Dev nD} (t t' : Fin cfg0.N) {B S : FVec Ideal S8x256 .f32} {K : IVec S8x256 32} (h : Lanes m c (2 * t.val) B S K)
    (XP : Vec Ideal S224x256 .f32) (hXP : XP = permuted (F := Ideal) (iblk m c 0 t')) :
    Lanes m c (2 * t.val + 2) (newBest (logits (F := Ideal) (iblk m c 1 t) (iblk m c 2 t) (iblk m c 3 t) XP 1 (by decide)) (newBest (logits (F := Ideal) (iblk m c 1 t) (iblk m c 2 t) (iblk m c 3 t) XP 0 (by decide)) B))
      (newSecond (logits (F := Ideal) (iblk m c 1 t) (iblk m c 2 t) (iblk m c 3 t) XP 1 (by decide)) (newBest (logits (F := Ideal) (iblk m c 1 t) (iblk m c 2 t) (iblk m c 3 t) XP 0 (by decide)) B) (newSecond (logits (F := Ideal) (iblk m c 1 t) (iblk m c 2 t) (iblk m c 3 t) XP 0 (by decide)) B S))
      (newIdx (logits (F := Ideal) (iblk m c 1 t) (iblk m c 2 t) (iblk m c 3 t) XP 1 (by decide)) (newBest (logits (F := Ideal) (iblk m c 1 t) (iblk m c 2 t) (iblk m c 3 t) XP 0 (by decide)) B) (lanes (grid0.coords t) 256#32) (newIdx (logits (F := Ideal) (iblk m c 1 t) (iblk m c 2 t) (iblk m c 3 t) XP 0 (by decide)) B (lanes (grid0.coords t) 0#32) K)) := by
  have ht := t.isLt
  have hN : cfg0.N = 63 := N_0
  subst hXP
  refine Lanes.step m (by omega) (Lanes.step m (by omega) h _ _ ?_ ?_) _ _ ?_ ?_
  · intro b l; exact tile_eq m c t t' 0 _ b l _ (by dsimp only; omega)
  · intro b l; exact (lanes_apply t 0 (by decide) b l).trans (by omega)
  · intro b l; exact tile_eq m c t t' 1 _ b l _ (by dsimp only; omega)
  · intro b l; exact (lanes_apply t 256 (by decide) b l).trans (by omega)

end Cert.KernelIdeal.Body

end
-- ==== Proof.Finish.lean ====
module

public import proofs.«01_k».proof.Proof.Reads
public import proofs.«01_k».proof.Proof.Top2

@[expose] public section

set_option maxRecDepth 16384

noncomputable section

/- The last step's three results, read from the 256 carried lanes of a row. -/

namespace Cert.KernelIdeal.Body

open Cert.KernelIdeal Cert.KernelIdeal.Gen Idealize.ShloMosaic Idealize.ShloMosaic.TcCoe Idealize.SL.Sem
open Cert.Proof.Top2
open scoped BigOperators

theorem negInf_bits : Ideal.ofBits .f32 4286578688#32 = ⊥ := by simp [Ideal.ofBits, Ideal.ieee]

/-- The greatest of the lanes. -/
def laneMax (f : Fin 256 → EReal) : EReal := Finset.fold max (Ideal.ofBits .f32 4286578688#32) f Finset.univ

theorem laneMax_le (f : Fin 256 → EReal) (l : Fin 256) : f l ≤ laneMax f := by
  unfold laneMax
  rw [negInf_bits]
  exact Finset.le_sup (f := f) (Finset.mem_univ l)

theorem laneMax_ex (f : Fin 256 → EReal) : ∃ l, f l = laneMax f := by
  unfold laneMax
  rw [negInf_bits]
  obtain ⟨l, _, h⟩ := Finset.exists_mem_eq_sup (Finset.univ : Finset (Fin 256)) ⟨0, Finset.mem_univ 0⟩ f
  exact ⟨l, h.symm⟩

theorem minsi_toNat (a b : BitVec 32) (ha : a.toNat < 2147483648) (hb : b.toNat < 2147483648) : (IntOp.minsi a b = a ∧ a.toNat ≤ b.toNat) ∨ (IntOp.minsi a b = b ∧ b.toNat ≤ a.toNat) := by
  have ea : a.toInt = a.toNat := BitVec.toInt_eq_toNat_of_lt (by omega)
  have eb : b.toInt = b.toNat := BitVec.toInt_eq_toNat_of_lt (by omega)
  unfold IntOp.minsi
  split
  · rename_i h
    simp only [BitVec.slt, BitVec.sle, ea, eb, decide_eq_true_eq] at h
    exact Or.inl ⟨rfl, by omega⟩
  · rename_i h
    simp only [BitVec.slt, BitVec.sle, ea, eb, decide_eq_true_eq] at h
    exact Or.inr ⟨rfl, by omega⟩

/-- The least of the lanes' words, all of them small. -/
theorem laneMin (h : Fin 256 → BitVec 32) (hh : ∀ l, (h l).toNat < 2147483647) (s : Finset (Fin 256)) :
    (Finset.fold IntOp.minsi 2147483647#32 h s).toNat < 2147483648 ∧ (∀ l ∈ s, (Finset.fold IntOp.minsi 2147483647#32 h s).toNat ≤ (h l).toNat) ∧
      (Finset.fold IntOp.minsi 2147483647#32 h s = 2147483647#32 ∨ ∃ l, Finset.fold IntOp.minsi 2147483647#32 h s = h l) := by
  induction s using Finset.induction_on with
  | empty => exact ⟨by simp, by simp, Or.inl (by simp)⟩
  | insert a s ha ih =>
    obtain ⟨i1, i2, i3⟩ := ih
    rw [Finset.fold_insert ha]
    have hha := hh a
    rcases minsi_toNat (h a) _ (by omega) i1 with ⟨e, hle⟩ | ⟨e, hle⟩
    · rw [e]
      refine ⟨by omega, fun l hl => ?_, Or.inr ⟨a, rfl⟩⟩
      rcases Finset.mem_insert.mp hl with rfl | hl
      · exact le_rfl
      · exact hle.trans (i2 l hl)
    · rw [e]
      refine ⟨i1, fun l hl => ?_, i3⟩
      rcases Finset.mem_insert.mp hl with rfl | hl
      · exact hle
      · exact i2 l hl

theorem finish_row (g : ℕ → ℕ → EReal) (f : Fin 32256 → EReal) (hf : ∀ v : Fin 32256, f v = g (v.val / 256) (v.val % 256)) (p q : Fin 32256) (h : IsTop2 f p q)
    (B S : FVec Ideal S8x256 .f32) (K : IVec S8x256 32) (b : Fin 8) (hl : ∀ l : Fin 256, LaneOK g l.val 126 (B (ix2 b l)) (S (ix2 b l)) (K (ix2 b l)).toNat) (j : Fin 128) :
    k0_pay6 (F := Ideal) B K (ix2 b j) = BitVec.ofNat 32 p.val ∧ k0_pay7 (F := Ideal) B K S (ix2 b j) = f p - f q ∧ k0_pay8 (F := Ideal) B (ix2 b j) = f p := by
  have hK : ∀ l : Fin 256, (K (ix2 b l)).toNat < 32256 := by
    intro l
    rcases (hl l).2 with ⟨_, _, hi⟩ | ⟨k, hk, hi, _⟩ <;> omega
  let T : EReal := laneMax fun x => B (ix2 b x)
  let w : Fin 256 → BitVec 32 := fun x => if B (ix2 b x) = T then K (ix2 b x) else 32256#32
  let I : BitVec 32 := Finset.fold IntOp.minsi 2147483647#32 w Finset.univ
  let N : EReal := laneMax fun x => Scalar.select (IntOp.cmpi .eq (K (ix2 b x)) I) (S (ix2 b x)) (B (ix2 b x))
  have hw : ∀ l, (w l).toNat < 2147483647 := by
    intro l
    have := hK l
    show (if B (ix2 b l) = T then K (ix2 b l) else 32256#32).toNat < _
    split
    · omega
    · decide
  obtain ⟨i1, i2, i3⟩ := laneMin w hw Finset.univ
  have hsel : ∀ x : Fin 256, Scalar.select (IntOp.cmpi .eq (K (ix2 b x)) I) (S (ix2 b x)) (B (ix2 b x)) = if (K (ix2 b x)).toNat = I.toNat then S (ix2 b x) else B (ix2 b x) := by
    intro x
    by_cases hx : K (ix2 b x) = I
    · rw [hx]; simp [Scalar.select, IntOp.cmpi]
    · have hx' : (K (ix2 b x) == I) = false := by simpa using hx
      rw [if_neg (fun h => hx (BitVec.eq_of_toNat_eq h))]
      simp [Scalar.select, IntOp.cmpi, hx']
  have hT' : ∃ l, B (ix2 b l) = T := laneMax_ex fun x => B (ix2 b x)
  have hI : ∀ l, B (ix2 b l) = T → I.toNat ≤ (K (ix2 b l)).toNat := by
    intro l hbl
    have := i2 l (Finset.mem_univ l)
    have e : w l = K (ix2 b l) := if_pos hbl
    rw [e] at this
    exact this
  have hI' : ∃ l, B (ix2 b l) = T ∧ (K (ix2 b l)).toNat = I.toNat := by
    obtain ⟨l₀, h₀⟩ := hT'
    have hlt : I.toNat < 32256 := lt_of_le_of_lt (hI l₀ h₀) (hK l₀)
    rcases i3 with e | ⟨l, e⟩
    · have : I.toNat = 2147483647 := congrArg BitVec.toNat e
      omega
    · by_cases hbl : B (ix2 b l) = T
      · refine ⟨l, hbl, ?_⟩
        have e' : w l = K (ix2 b l) := if_pos hbl
        rw [← e', ← e]
      · have e' : w l = 32256#32 := if_neg hbl
        have : I.toNat = 32256 := congrArg BitVec.toNat (e.trans e')
        omega
  have hfin := finish g f hf p q h (fun l => B (ix2 b l)) (fun l => S (ix2 b l)) (fun l => (K (ix2 b l)).toNat) hl T (laneMax_le fun x => B (ix2 b x)) hT' I.toNat hI hI' N
    (fun l => (hsel l).symm.le.trans (laneMax_le (fun x => Scalar.select (IntOp.cmpi .eq (K (ix2 b x)) I) (S (ix2 b x)) (B (ix2 b x))) l))
    (by obtain ⟨l, hl'⟩ := laneMax_ex (fun x => Scalar.select (IntOp.cmpi .eq (K (ix2 b x)) I) (S (ix2 b x)) (B (ix2 b x))); exact ⟨l, (hsel l).symm.trans hl'⟩)
  obtain ⟨f1, f2, f3⟩ := hfin
  refine ⟨?_, ?_, ?_⟩
  · have e : I = BitVec.ofNat 32 p.val := by
      apply BitVec.eq_of_toNat_eq
      rw [f2, BitVec.toNat_ofNat]
      omega
    rw [← e]
    pointwise [k0_pay6, k0_pay5, k0_pay4]
    rfl
  · rw [← f1, ← f3]
    pointwise [k0_pay7, k0_pay5, k0_pay4]
    rfl
  · rw [← f1]
    pointwise [k0_pay8, k0_pay4]
    rfl

end Cert.KernelIdeal.Body

end
-- ==== Proof.BodyA.lean ====
module

public import proofs.«01_k».proof.Proof.Body
public import Idealize.ShloMosaic.Lib.Pipeline.ReadBack
public import Idealize.ShloMosaic.Lib.Pipeline.ValueKit

@[expose] public section

set_option maxRecDepth 16384

noncomputable section

/- The first grid step: what it leaves in each scratch buffer. -/

namespace Cert.KernelIdeal.Body

open Cert.KernelIdeal Cert.KernelIdeal.Gen Idealize.ShloMosaic Idealize.ShloMosaic.TcCoe Idealize.SL.Sem

variable {F : FTy → Type} [FloatOps F]

theorem sout0_A_0_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : cond0_0 i) (hc1 : ¬cond0_1 i)
    (x0 : Vec F S8x7168 .bf16) (x1 : Vec F S512x3584 .i8) (x2 : Vec F S224x512 .bf16) (x3 : Vec F S224x512 .bf16) :
    sout0_A_0 c i arg1 harg1 arg2 harg2 arg3 harg3 arg4 harg4 arg5 harg5 arg6 harg6 arg7 harg7 arg8 harg8 arg9 harg9 arg10 harg10 arg11 harg11 hc0 hc1 x0 x1 x2 x3 =
      permuted x0 := by
  frame_out
  simp only [pay1_eq, pay2_eq, pay3_eq, pay30_eq, pay31_eq, pay32_eq, pay33_eq, pay86_eq, pay87_eq, pay88_eq]
  rfl

theorem sout0_A_1_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : cond0_0 i) (hc1 : ¬cond0_1 i)
    (x0 : Vec F S8x7168 .bf16) (x1 : Vec F S512x3584 .i8) (x2 : Vec F S224x512 .bf16) (x3 : Vec F S224x512 .bf16) :
    sout0_A_1 c i arg1 harg1 arg2 harg2 arg3 harg3 arg4 harg4 arg5 harg5 arg6 harg6 arg7 harg7 arg8 harg8 arg9 harg9 arg10 harg10 arg11 harg11 hc0 hc1 x0 x1 x2 x3 =
      newBest (logits x1 x2 x3 (permuted x0) 1 (by decide)) (newBest (logits x1 x2 x3 (permuted x0) 0 (by decide)) negInf) := by
  frame_out
  simp only [pay1_eq, pay2_eq, pay3_eq, pay30_eq, pay31_eq, pay32_eq, pay33_eq, pay86_eq, pay87_eq, pay88_eq, cast_same, xp_read]
  rfl

theorem sout0_A_2_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : cond0_0 i) (hc1 : ¬cond0_1 i)
    (x0 : Vec F S8x7168 .bf16) (x1 : Vec F S512x3584 .i8) (x2 : Vec F S224x512 .bf16) (x3 : Vec F S224x512 .bf16) :
    sout0_A_2 c i arg1 harg1 arg2 harg2 arg3 harg3 arg4 harg4 arg5 harg5 arg6 harg6 arg7 harg7 arg8 harg8 arg9 harg9 arg10 harg10 arg11 harg11 hc0 hc1 x0 x1 x2 x3 =
      newSecond (logits x1 x2 x3 (permuted x0) 1 (by decide)) (newBest (logits x1 x2 x3 (permuted x0) 0 (by decide)) negInf) (newSecond (logits x1 x2 x3 (permuted x0) 0 (by decide)) negInf negInf) := by
  frame_out
  simp only [pay1_eq, pay2_eq, pay3_eq, pay30_eq, pay31_eq, pay32_eq, pay33_eq, pay86_eq, pay87_eq, pay88_eq, cast_same, xp_read]
  rfl

theorem sout0_A_3_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : cond0_0 i) (hc1 : ¬cond0_1 i)
    (x0 : Vec F S8x7168 .bf16) (x1 : Vec F S512x3584 .i8) (x2 : Vec F S224x512 .bf16) (x3 : Vec F S224x512 .bf16) :
    sout0_A_3 c i arg1 harg1 arg2 harg2 arg3 harg3 arg4 harg4 arg5 harg5 arg6 harg6 arg7 harg7 arg8 harg8 arg9 harg9 arg10 harg10 arg11 harg11 hc0 hc1 x0 x1 x2 x3 =
      newIdx (logits x1 x2 x3 (permuted x0) 1 (by decide)) (newBest (logits x1 x2 x3 (permuted x0) 0 (by decide)) negInf) (lanes i 256#32) (newIdx (logits x1 x2 x3 (permuted x0) 0 (by decide)) negInf (lanes i 0#32) (broadcast S8x256 0#32)) := by
  frame_out
  simp only [pay1_eq, pay2_eq, pay3_eq, pay30_eq, pay31_eq, pay32_eq, pay33_eq, pay86_eq, pay87_eq, pay88_eq, cast_same, xp_read]
  rfl

end Cert.KernelIdeal.Body

end
-- ==== Proof.BodyB.lean ====
module

public import proofs.«01_k».proof.Proof.Body
public import Idealize.ShloMosaic.Lib.Pipeline.ReadBack
public import Idealize.ShloMosaic.Lib.Pipeline.ValueKit

@[expose] public section

set_option maxRecDepth 16384

noncomputable section

/- A middle grid step: what it leaves in each scratch buffer. -/

namespace Cert.KernelIdeal.Body

open Cert.KernelIdeal Cert.KernelIdeal.Gen Idealize.ShloMosaic Idealize.ShloMosaic.TcCoe Idealize.SL.Sem

variable {F : FTy → Type} [FloatOps F]

theorem sout0_B_1_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : ¬cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    sout0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      newBest (logits x1 x2 x3 xs0 1 (by decide)) (newBest (logits x1 x2 x3 xs0 0 (by decide)) xs1) := by
  frame_out
  simp only [pay1_eq, pay2_eq, pay3_eq, pay30_eq, pay31_eq, pay32_eq, pay33_eq, pay86_eq, pay87_eq, pay88_eq]
  rfl

theorem sout0_B_2_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : ¬cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    sout0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      newSecond (logits x1 x2 x3 xs0 1 (by decide)) (newBest (logits x1 x2 x3 xs0 0 (by decide)) xs1) (newSecond (logits x1 x2 x3 xs0 0 (by decide)) xs1 xs2) := by
  frame_out
  simp only [pay1_eq, pay2_eq, pay3_eq, pay30_eq, pay31_eq, pay32_eq, pay33_eq, pay86_eq, pay87_eq, pay88_eq]
  rfl

theorem sout0_B_3_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : ¬cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    sout0_B_3 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      newIdx (logits x1 x2 x3 xs0 1 (by decide)) (newBest (logits x1 x2 x3 xs0 0 (by decide)) xs1) (lanes i 256#32) (newIdx (logits x1 x2 x3 xs0 0 (by decide)) xs1 (lanes i 0#32) xs3) := by
  frame_out
  simp only [pay1_eq, pay2_eq, pay3_eq, pay30_eq, pay31_eq, pay32_eq, pay33_eq, pay86_eq, pay87_eq, pay88_eq]
  rfl

end Cert.KernelIdeal.Body

end
-- ==== Proof.BodyC.lean ====
module

public import proofs.«01_k».proof.Proof.Body
public import Idealize.ShloMosaic.Lib.Pipeline.ReadBack
public import Idealize.ShloMosaic.Lib.Pipeline.ValueKit

@[expose] public section

set_option maxRecDepth 16384

noncomputable section

/- The last grid step: what it leaves in each scratch buffer and in the results. -/

namespace Cert.KernelIdeal.Body

open Cert.KernelIdeal Cert.KernelIdeal.Gen Idealize.ShloMosaic Idealize.ShloMosaic.TcCoe Idealize.SL.Sem

variable {F : FTy → Type} [FloatOps F]

theorem sout0_C_1_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    sout0_C_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      newBest (logits x1 x2 x3 xs0 1 (by decide)) (newBest (logits x1 x2 x3 xs0 0 (by decide)) xs1) := by
  frame_out
  simp only [pay1_eq, pay2_eq, pay3_eq, pay30_eq, pay31_eq, pay32_eq, pay33_eq, pay86_eq, pay87_eq, pay88_eq]
  rfl

theorem sout0_C_2_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    sout0_C_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      newSecond (logits x1 x2 x3 xs0 1 (by decide)) (newBest (logits x1 x2 x3 xs0 0 (by decide)) xs1) (newSecond (logits x1 x2 x3 xs0 0 (by decide)) xs1 xs2) := by
  frame_out
  simp only [pay1_eq, pay2_eq, pay3_eq, pay30_eq, pay31_eq, pay32_eq, pay33_eq, pay86_eq, pay87_eq, pay88_eq]
  rfl

theorem sout0_C_3_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    sout0_C_3 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      newIdx (logits x1 x2 x3 xs0 1 (by decide)) (newBest (logits x1 x2 x3 xs0 0 (by decide)) xs1) (lanes i 256#32) (newIdx (logits x1 x2 x3 xs0 0 (by decide)) xs1 (lanes i 0#32) xs3) := by
  frame_out
  simp only [pay1_eq, pay2_eq, pay3_eq, pay30_eq, pay31_eq, pay32_eq, pay33_eq, pay86_eq, pay87_eq, pay88_eq]
  rfl

theorem out0_C_4_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    out0_C_4 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      k0_pay6 (newBest (logits x1 x2 x3 xs0 1 (by decide)) (newBest (logits x1 x2 x3 xs0 0 (by decide)) xs1)) (newIdx (logits x1 x2 x3 xs0 1 (by decide)) (newBest (logits x1 x2 x3 xs0 0 (by decide)) xs1) (lanes i 256#32) (newIdx (logits x1 x2 x3 xs0 0 (by decide)) xs1 (lanes i 0#32) xs3)) := by
  frame_out
  simp only [pay1_eq, pay2_eq, pay3_eq, pay30_eq, pay31_eq, pay32_eq, pay33_eq, pay86_eq, pay87_eq, pay88_eq]
  rfl

theorem out0_C_5_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    out0_C_5 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      k0_pay7 (newBest (logits x1 x2 x3 xs0 1 (by decide)) (newBest (logits x1 x2 x3 xs0 0 (by decide)) xs1)) (newIdx (logits x1 x2 x3 xs0 1 (by decide)) (newBest (logits x1 x2 x3 xs0 0 (by decide)) xs1) (lanes i 256#32) (newIdx (logits x1 x2 x3 xs0 0 (by decide)) xs1 (lanes i 0#32) xs3)) (newSecond (logits x1 x2 x3 xs0 1 (by decide)) (newBest (logits x1 x2 x3 xs0 0 (by decide)) xs1) (newSecond (logits x1 x2 x3 xs0 0 (by decide)) xs1 xs2)) := by
  frame_out
  simp only [pay1_eq, pay2_eq, pay3_eq, pay30_eq, pay31_eq, pay32_eq, pay33_eq, pay86_eq, pay87_eq, pay88_eq]
  rfl

theorem out0_C_6_eq (c : Dev nD) (i : grid0.Coords) (arg1 : Memref sig .tc .vmem S8x7168 .bf16) (harg1 : arg1.IsWhole) (arg2 : Memref sig .tc .vmem S512x3584 .i8) (harg2 : arg2.IsWhole) (arg3 : Memref sig .tc .vmem S224x512 .bf16) (harg3 : arg3.IsWhole) (arg4 : Memref sig .tc .vmem S224x512 .bf16) (harg4 : arg4.IsWhole) (arg5 : Memref sig .tc .vmem S8x128 .i32) (harg5 : arg5.IsWhole) (arg6 : Memref sig .tc .vmem S8x128 .f32) (harg6 : arg6.IsWhole) (arg7 : Memref sig .tc .vmem S8x128 .f32) (harg7 : arg7.IsWhole) (arg8 : Memref sig .tc .vmem S224x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .i32) (harg11 : arg11.IsWhole) (hc0 : ¬cond0_0 i) (hc1 : cond0_1 i)
    (x0 : Vec F S8x7168 .bf16) (x1 : Vec F S512x3584 .i8) (x2 : Vec F S224x512 .bf16) (x3 : Vec F S224x512 .bf16) (xs0 : Vec F S224x256 .f32) (xs1 : Vec F S8x256 .f32) (xs2 : Vec F S8x256 .f32) (xs3 : Vec F S8x256 .i32) :
    out0_C_6 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 =
      k0_pay8 (newBest (logits x1 x2 x3 xs0 1 (by decide)) (newBest (logits x1 x2 x3 xs0 0 (by decide)) xs1)) := by
  frame_out
  simp only [pay1_eq, pay2_eq, pay3_eq, pay30_eq, pay31_eq, pay32_eq, pay33_eq, pay86_eq, pay87_eq, pay88_eq]
  rfl

end Cert.KernelIdeal.Body

end
-- ==== Proof.Sweep.lean ====
module

public import proofs.«01_k».proof.Proof.Tiles
public import proofs.«01_k».proof.Proof.Finish
public import proofs.«01_k».proof.Proof.BodyA
public import proofs.«01_k».proof.Proof.BodyB
public import proofs.«01_k».proof.Proof.BodyC

@[expose] public section

set_option maxRecDepth 16384

noncomputable section

/- The sweep over the 63 grid steps, and the kernel's three results. -/

namespace Cert.KernelIdeal.Body

open Cert.KernelIdeal Cert.KernelIdeal.Gen Cert.KernelIdeal.Value Idealize.ShloMosaic Idealize.ShloMosaic.TcCoe Idealize.SL.Sem
open Cert.ReferenceIdeal.Spec (refLogits refToken refMargin refTop ref_results line)
open Cert.Proof.Top2
open scoped BigOperators

variable (m : (ℓ : Loc nD τ sig) → Buf (Elt Ideal) ℓ)

theorem pos0 : 0 < cfg0.N := by rw [show cfg0.N = 63 from N_0]; decide

/-- The carried state after step `n`: the permuted activations, and the lanes over the first `2 (n + 1)` tiles. -/
theorem carried (c : Dev nD) : ∀ (n : ℕ) (hn : n < cfg0.N), n < 62 →
    (outsAt0 m c n hn).2.2.2.1 = permuted (F := Ideal) (iblk m c 0 (⟨0, pos0⟩ : Fin cfg0.N)) ∧
    Lanes m c (2 * (n + 1)) (outsAt0 m c n hn).2.2.2.2.1 (outsAt0 m c n hn).2.2.2.2.2.1 (outsAt0 m c n hn).2.2.2.2.2.2 := by
  intro n
  induction n with
  | zero =>
    intro hn _
    have e := stAt0_A m c (⟨0, hn⟩ : Fin cfg0.N) junk0 (Nat.zero_mod 63) (by dsimp only; omega)
    rw [outsAt0_zero]
    dsimp only at e
    rw [e]
    dsimp only
    rw [sout0_A_0_eq, sout0_A_1_eq, sout0_A_2_eq, sout0_A_3_eq]
    exact ⟨rfl, Lanes.step2 m (⟨0, hn⟩ : Fin cfg0.N) (⟨0, hn⟩ : Fin cfg0.N) (Lanes.zero m c) _ rfl⟩
  | succ n ih =>
    intro hn hlt
    obtain ⟨i1, i2⟩ := ih (Nat.lt_of_succ_lt hn) (by omega)
    have e := stAt0_B m c (⟨n + 1, hn⟩ : Fin cfg0.N) (outsAt0 m c n (Nat.lt_of_succ_lt hn)) (by dsimp only; omega) (by dsimp only; omega)
    rw [outsAt0_succ]
    dsimp only at e
    rw [e]
    dsimp only
    rw [sout0_B_1_eq, sout0_B_2_eq, sout0_B_3_eq]
    exact ⟨i1, Lanes.step2 m (⟨n + 1, hn⟩ : Fin cfg0.N) (⟨0, pos0⟩ : Fin cfg0.N) i2 _ i1⟩

/-- The three result arrays come from lanes that have seen all 126 tiles. -/
theorem results (c : Dev nD) : ∃ (B S : FVec Ideal S8x256 .f32) (K : IVec S8x256 32), Lanes m c 126 B S K ∧
    G4 m c = k0_pay6 (F := Ideal) B K ∧ G5 m c = k0_pay7 (F := Ideal) B K S ∧ G6 m c = k0_pay8 (F := Ideal) B := by
  have hN : cfg0.N = 63 := N_0
  have h62 : 61 + 1 < cfg0.N := by omega
  obtain ⟨i1, i2⟩ := carried m c 61 (Nat.lt_of_succ_lt h62) (by decide)
  have e := stAt0_C m c (⟨61 + 1, h62⟩ : Fin cfg0.N) (outsAt0 m c 61 (Nat.lt_of_succ_lt h62)) (by dsimp only; omega) (by dsimp only)
  dsimp only at e
  have es := (outsAt0_succ m c 61 h62).trans e
  have hs := outsAt0_sweep m c 62 h62
  refine ⟨_, _, _, Lanes.step2 m (⟨61 + 1, h62⟩ : Fin cfg0.N) (⟨0, pos0⟩ : Fin cfg0.N) i2 _ i1, ?_, ?_, ?_⟩
  · rw [G4_last, ← hs, es]
    dsimp only
    rw [out0_C_4_eq]
  · rw [G5_last, ← hs, es]
    dsimp only
    rw [out0_C_5_eq]
  · rw [G6_last, ← hs, es]
    dsimp only
    rw [out0_C_6_eq]

theorem lineAt_eq (c : Dev nD) (b : Fin 8) (v : Fin 32256) : line (L m c) b v = lineAt m c b (v.val / 256) (v.val % 256) := by
  unfold lineAt line
  have e : 256 * (v.val / 256) + v.val % 256 = v.val := Nat.div_add_mod v.val 256
  rw [dif_pos (by omega)]
  simp only [e]

/-- The kernel's three results are the reference's. -/
theorem results_eq (c : Dev nD) :
    G4 m c = refToken (F := Ideal) (m ((c : Thread nD τ).loc main_arg0)) (m ((c : Thread nD τ).loc main_arg1)) (m ((c : Thread nD τ).loc main_arg2)) (m ((c : Thread nD τ).loc main_arg3)) ∧
    G5 m c = refMargin (F := Ideal) (m ((c : Thread nD τ).loc main_arg0)) (m ((c : Thread nD τ).loc main_arg1)) (m ((c : Thread nD τ).loc main_arg2)) (m ((c : Thread nD τ).loc main_arg3)) ∧
    G6 m c = refTop (F := Ideal) (m ((c : Thread nD τ).loc main_arg0)) (m ((c : Thread nD τ).loc main_arg1)) (m ((c : Thread nD τ).loc main_arg2)) (m ((c : Thread nD τ).loc main_arg3)) := by
  obtain ⟨B, S, K, hl, h4, h5, h6⟩ := results m c
  have key : ∀ (b : Fin 8) (j : Fin 128), k0_pay6 (F := Ideal) B K (ix2 b j) = refToken (F := Ideal) (m ((c : Thread nD τ).loc main_arg0)) (m ((c : Thread nD τ).loc main_arg1)) (m ((c : Thread nD τ).loc main_arg2)) (m ((c : Thread nD τ).loc main_arg3)) (ix2 b j) ∧
      k0_pay7 (F := Ideal) B K S (ix2 b j) = refMargin (F := Ideal) (m ((c : Thread nD τ).loc main_arg0)) (m ((c : Thread nD τ).loc main_arg1)) (m ((c : Thread nD τ).loc main_arg2)) (m ((c : Thread nD τ).loc main_arg3)) (ix2 b j) ∧
      k0_pay8 (F := Ideal) B (ix2 b j) = refTop (F := Ideal) (m ((c : Thread nD τ).loc main_arg0)) (m ((c : Thread nD τ).loc main_arg1)) (m ((c : Thread nD τ).loc main_arg2)) (m ((c : Thread nD τ).loc main_arg3)) (ix2 b j) := by
    intro b j
    obtain ⟨p, q, hpq, hr⟩ := ref_results (m ((c : Thread nD τ).loc main_arg0)) (m ((c : Thread nD τ).loc main_arg1)) (m ((c : Thread nD τ).loc main_arg2)) (m ((c : Thread nD τ).loc main_arg3)) b
    obtain ⟨r1, r2, r3⟩ := hr j
    obtain ⟨k1, k2, k3⟩ := finish_row (lineAt m c b) (line (L m c) b) (lineAt_eq m c b) p q hpq B S K b (hl b) j
    exact And.intro (k1.trans r1.symm) (And.intro (k2.trans r2.symm) (k3.trans r3.symm))
  have hix : ∀ i : S8x128.Idx, i = ix2 (i 0) (i 1) := by
    intro i; funext a; fin_cases a <;> rfl
  rw [h4, h5, h6]
  refine ⟨?_, ?_, ?_⟩ <;> funext i <;> rw [hix i]
  · exact (key _ _).1
  · exact (key _ _).2.1
  · exact (key _ _).2.2

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefSpec
public import proofs.«01_k».proof.Proof.Sweep
public import Idealize.ShloMosaic.Adequacy
public import Idealize.ShloMosaic.Init

@[expose] public section

noncomputable section

namespace Cert.Proof

open Idealize.ShloMosaic Idealize.SL.Sem Cert.Kernel

/-- The reference's run: the generated run read at the arguments; it declares no semaphore. -/
theorem frame_r : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run m ρ)

/-- The idealized kernel and the reference end with equal results. -/
theorem algebraic : Cert.algebraic_KernelIdeal_ReferenceIdeal := fun m ρ m' ρ' _ hag =>
  ⟨fun c => Cert.KernelIdeal.Value.G4 m c, fun c => Cert.KernelIdeal.Value.G5 m c, fun c => Cert.KernelIdeal.Value.G6 m c,
    Cert.KernelIdeal.Value.run m ρ,
    (θ_run Cert.ReferenceIdeal.defs _ _).mono (fun r h c => by
        obtain ⟨h0, h1, h2, h3⟩ := hag c
        obtain ⟨e4, e5, e6⟩ := Cert.KernelIdeal.Body.results_eq m c
        obtain ⟨r0, r1, r2, ra⟩ := h c
        refine ⟨r0.trans ?_, r1.trans ?_, r2.trans ?_, ra⟩
        · rw [h0, h1, h2, h3]; exact e4.symm
        · rw [h0, h1, h2, h3]; exact e5.symm
        · rw [h0, h1, h2, h3]; exact e6.symm)
      (Cert.ReferenceIdeal.Spec.run m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_r, trivial, algebraic⟩

end Cert.Proof

end
